-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_in_range [hPre_counts_in_range : Cert.Pre_counts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_counts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_in_range [hPre_counts_in_range : Cert.Pre_counts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_counts_in_range [hKernelIdeal : Cert.KernelIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_counts_in_range [hReferenceIdeal : Cert.ReferenceIdeal.Facts] [hPre_counts_in_range : Cert.Pre_counts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_counts_in_range [hKernelIdeal : Cert.KernelIdeal.Facts] [hReferenceIdeal : Cert.ReferenceIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_counts_in_range : Cert.Pre_counts_in_range.Facts),
    quiescent_Kernel (hKernel := hKernel)
    ∧ quiescent_KernelIdeal (hKernelIdeal := hKernelIdeal)
    ∧ quiescent_KernelIdeal_pre_counts_in_range (hKernelIdeal := hKernelIdeal) (hPre_counts_in_range := hPre_counts_in_range)
    ∧ quiescent_ReferenceIdeal (hReferenceIdeal := hReferenceIdeal)
    ∧ quiescent_ReferenceIdeal_pre_counts_in_range (hReferenceIdeal := hReferenceIdeal) (hPre_counts_in_range := hPre_counts_in_range)
    ∧ preserves_Kernel_KernelIdeal
    ∧ algebraic_KernelIdeal_ReferenceIdeal_pre_counts_in_range (hKernelIdeal := hKernelIdeal) (hReferenceIdeal := hReferenceIdeal) (hPre_counts_in_range := hPre_counts_in_range)
-- ==== Pre_counts_in_range.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .f32) (main_arg1 : IVec S16 32) (main_arg2 : IVec S16 32) : IVec S16 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 512#32
  let main_v2 : IVec S16 32 := broadcastInDim S16 ![] bcast_S_S16 main_c_0
  let main_v3 : IVec S16 1 := cmpi .slt main_arg1 main_v2
  let main_v4 : IVec S16 1 := andi main_v1 main_v3
  let main_c_1 : IVec S_ 32 := constantI S_ 32 0#32
  let main_v5 : IVec S16 32 := broadcastInDim S16 ![] bcast_S_S16 main_c_1
  let main_v6 : IVec S16 1 := cmpi .sge main_arg2 main_v5
  let main_v7 : IVec S16 1 := andi main_v4 main_v6
  let main_c_2 : IVec S_ 32 := constantI S_ 32 512#32
  let main_v8 : IVec S16 32 := broadcastInDim S16 ![] bcast_S_S16 main_c_2
  let main_v9 : IVec S16 1 := cmpi .slt main_arg2 main_v8
  let main_v10 : IVec S16 1 := andi main_v7 main_v9
  main_v10
-- ==== Kernel.lean ====
abbrev S16x512x512 : Shape := ⟨3, ![16, 512, 512]⟩
abbrev S16 : Shape := ⟨1, ![16]⟩
abbrev S8192x512 : Shape := ⟨2, ![8192, 512]⟩
abbrev S1x512x512 : Shape := ⟨3, ![1, 512, 512]⟩
abbrev S1 : Shape := ⟨1, ![1]⟩
abbrev S512x1 : Shape := ⟨2, ![512, 1]⟩
abbrev S1x512 : Shape := ⟨2, ![1, 512]⟩
abbrev S512x512 : Shape := ⟨2, ![512, 512]⟩
abbrev S512x16 : Shape := ⟨2, ![512, 16]⟩
abbrev S16x1x16 : Shape := ⟨3, ![16, 1, 16]⟩
abbrev S1x512x16 : Shape := ⟨3, ![1, 512, 16]⟩
abbrev S16x512x16 : Shape := ⟨3, ![16, 512, 16]⟩
abbrev S8192x16 : Shape := ⟨2, ![8192, 16]⟩
abbrev S16x512 : Shape := ⟨2, ![16, 512]⟩
abbrev S16x512x1 : Shape := ⟨3, ![16, 512, 1]⟩
abbrev S16x1x512 : Shape := ⟨3, ![16, 1, 512]⟩
abbrev S512 : Shape := ⟨1, ![512]⟩
abbrev S_ : Shape := ⟨0, ![]⟩
abbrev S263169 : Shape := ⟨1, ![263169]⟩
abbrev S1x263169 : Shape := ⟨2, ![1, 263169]⟩
abbrev S16x1 : Shape := ⟨2, ![16, 1]⟩
abbrev S16x263169 : Shape := ⟨2, ![16, 263169]⟩
abbrev S16x263169x1 : Shape := ⟨3, ![16, 263169, 1]⟩
abbrev S16x263169x2 : Shape := ⟨3, ![16, 263169, 2]⟩

abbrev nBuf : Space → Nat
  | .hbm => 102
  | .vmem => 12
  | .smem => 6
  | _ => 0

abbrev bufTy : (tb : Table) → Fin (tcTables nBuf tb) → BufTy
  | .hbm, ⟨0, _⟩ => ⟨S16x512x512, .f32⟩
  | .hbm, ⟨1, _⟩ => ⟨S16, .i32⟩
  | .hbm, ⟨2, _⟩ => ⟨S16, .i32⟩
  | .hbm, ⟨3, _⟩ => ⟨S16x512x512, .f32⟩
  | .hbm, ⟨4, _⟩ => ⟨S8192x512, .f32⟩
  | .hbm, ⟨5, _⟩ => ⟨S16x512x512, .f32⟩
  | .hbm, ⟨6, _⟩ => ⟨S16x512x512, .f32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S263169, .i32⟩
  | .hbm, ⟨11, _⟩ => ⟨S1x263169, .i32⟩
  | .hbm, ⟨12, _⟩ => ⟨S16x1, .i32⟩
  | .hbm, ⟨13, _⟩ => ⟨S16x263169, .i32⟩
  | .hbm, ⟨14, _⟩ => ⟨S16x263169, .i32⟩
  | .hbm, ⟨15, _⟩ => ⟨S16x263169, .i32⟩
  | .hbm, ⟨16, _⟩ => ⟨S263169, .i32⟩
  | .hbm, ⟨17, _⟩ => ⟨S16, .i32⟩
  | .hbm, ⟨18, _⟩ => ⟨S1x263169, .i32⟩
  | .hbm, ⟨19, _⟩ => ⟨S16x1, .i32⟩
  | .hbm, ⟨20, _⟩ => ⟨S16x263169, .i32⟩
  | .hbm, ⟨21, _⟩ => ⟨S16x263169, .i32⟩
  | .hbm, ⟨22, _⟩ => ⟨S16x263169, .i1⟩
  | .hbm, ⟨23, _⟩ => ⟨S1x263169, .i32⟩
  | .hbm, ⟨24, _⟩ => ⟨S16x1, .i32⟩
  | .hbm, ⟨25, _⟩ => ⟨S16x263169, .i32⟩
  | .hbm, ⟨26, _⟩ => ⟨S16x263169, .i32⟩
  | .hbm, ⟨27, _⟩ => ⟨S16x263169, .i32⟩
  | .hbm, ⟨28, _⟩ => ⟨S_, .i32⟩
  | .hbm, ⟨29, _⟩ => ⟨S16x263169, .i32⟩
  | .hbm, ⟨30, _⟩ => ⟨S16x263169, .i1⟩
  | .hbm, ⟨31, _⟩ => ⟨S16x263169, .i1⟩
  | .hbm, ⟨32, _⟩ => ⟨S_, .i32⟩
  | .hbm, ⟨33, _⟩ => ⟨S16x263169, .i32⟩
  | .hbm, ⟨34, _⟩ => ⟨S16x263169, .i32⟩
  | .hbm, ⟨35, _⟩ => ⟨S16x263169, .i32⟩
  | .hbm, ⟨36, _⟩ => ⟨S16x1, .i32⟩
  | .hbm, ⟨37, _⟩ => ⟨S16x263169, .i32⟩
  | .hbm, ⟨38, _⟩ => ⟨S16x263169, .i32⟩
  | .hbm, ⟨39, _⟩ => ⟨S1x263169, .i32⟩
  | .hbm, ⟨40, _⟩ => ⟨S16x263169, .i32⟩
  | .hbm, ⟨41, _⟩ => ⟨S16x263169, .i32⟩
  | .hbm, ⟨42, _⟩ => ⟨S_, .i32⟩
  | .hbm, ⟨43, _⟩ => ⟨S16, .i32⟩
  | .hbm, ⟨44, _⟩ => ⟨S16, .i32⟩
  | .hbm, ⟨45, _⟩ => ⟨S16, .i32⟩
  | .hbm, ⟨46, _⟩ => ⟨S1x263169, .i32⟩
  | .hbm, ⟨47, _⟩ => ⟨S16x1, .i32⟩
  | .hbm, ⟨48, _⟩ => ⟨S16x263169, .i32⟩
  | .hbm, ⟨49, _⟩ => ⟨S16x263169, .i32⟩
  | .hbm, ⟨50, _⟩ => ⟨S16x263169, .i1⟩
  | .hbm, ⟨51, _⟩ => ⟨S_, .i32⟩
  | .hbm, ⟨52, _⟩ => ⟨S16x263169, .i32⟩
  | .hbm, ⟨53, _⟩ => ⟨S16x263169, .i32⟩
  | .hbm, ⟨54, _⟩ => ⟨S_, .i32⟩
  | .hbm, ⟨55, _⟩ => ⟨S16x263169, .i32⟩
  | .hbm, ⟨56, _⟩ => ⟨S16x263169, .i1⟩
  | .hbm, ⟨57, _⟩ => ⟨S_, .i32⟩
  | .hbm, ⟨58, _⟩ => ⟨S16x263169, .i32⟩
  | .hbm, ⟨59, _⟩ => ⟨S16x263169, .i32⟩
  | .hbm, ⟨60, _⟩ => ⟨S16x263169, .i32⟩
  | .hbm, ⟨61, _⟩ => ⟨S_, .i32⟩
  | .hbm, ⟨62, _⟩ => ⟨S16x263169, .i32⟩
  | .hbm, ⟨63, _⟩ => ⟨S16x263169, .i1⟩
  | .hbm, ⟨64, _⟩ => ⟨S_, .i32⟩
  | .hbm, ⟨65, _⟩ => ⟨S16x263169, .i32⟩
  | .hbm, ⟨66, _⟩ => ⟨S16x263169, .i32⟩
  | .hbm, ⟨67, _⟩ => ⟨S16x263169, .i32⟩
  | .hbm, ⟨68, _⟩ => ⟨S16x263169x1, .i32⟩
  | .hbm, ⟨69, _⟩ => ⟨S16x263169x1, .i32⟩
  | .hbm, ⟨70, _⟩ => ⟨S16x263169x2, .i32⟩
  | .hbm, ⟨71, _⟩ => ⟨S16x263169, .f32⟩
  | .hbm, ⟨72, _⟩ => ⟨S_, .f32⟩
  | .hbm, ⟨73, _⟩ => ⟨S_, .f32⟩
  | .hbm, ⟨74, _⟩ => ⟨S263169, .f32⟩
  | .hbm, ⟨75, _⟩ => ⟨S16x263169, .f32⟩
  | .hbm, ⟨76, _⟩ => ⟨S16x263169, .f32⟩
  | .hbm, ⟨77, _⟩ => ⟨S_, .i32⟩
  | .hbm, ⟨78, _⟩ => ⟨S16x263169, .i32⟩
  | .hbm, ⟨79, _⟩ => ⟨S16x263169, .i1⟩
  | .hbm, ⟨80, _⟩ => ⟨S_, .i32⟩
  | .hbm, ⟨81, _⟩ => ⟨S16x263169, .i32⟩
  | .hbm, ⟨82, _⟩ => ⟨S16x263169, .i32⟩
  | .hbm, ⟨83, _⟩ => ⟨S16x263169, .i32⟩
  | .hbm, ⟨84, _⟩ => ⟨S_, .i32⟩
  | .hbm, ⟨85, _⟩ => ⟨S16x263169, .i32⟩
  | .hbm, ⟨86, _⟩ => ⟨S16x263169, .i1⟩
  | .hbm, ⟨87, _⟩ => ⟨S_, .i32⟩
  | .hbm, ⟨88, _⟩ => ⟨S16x263169, .i32⟩
  | .hbm, ⟨89, _⟩ => ⟨S16x263169, .i32⟩
  | .hbm, ⟨90, _⟩ => ⟨S16x263169, .i32⟩
  | .hbm, ⟨91, _⟩ => ⟨S16x263169x1, .i32⟩
  | .hbm, ⟨92, _⟩ => ⟨S16x263169x1, .i32⟩
  | .hbm, ⟨93, _⟩ => ⟨S16x263169x2, .i32⟩
  | .hbm, ⟨94, _⟩ => ⟨S16x263169, .f32⟩
  | .hbm, ⟨95, _⟩ => ⟨S_, .f32⟩
  | .hbm, ⟨96, _⟩ => ⟨S16x263169, .f32⟩
  | .hbm, ⟨97, _⟩ => ⟨S16x263169, .i1⟩
  | .hbm, ⟨98, _⟩ => ⟨S_, .i1⟩
  | .hbm, ⟨99, _⟩ => ⟨S263169, .i1⟩
  | .hbm, ⟨100, _⟩ => ⟨S16x263169, .i1⟩
  | .hbm, ⟨101, _⟩ => ⟨S16x263169, .i1⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S8192x512, .f32⟩
  | .local _ .vmem, ⟨5, _⟩ => ⟨S16x512x512, .f32⟩
  | .local _ .vmem, ⟨6, _⟩ => ⟨S512x16, .f32⟩
  | .local _ .vmem, ⟨7, _⟩ => ⟨S512x16, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .smem, ⟨0, _⟩ => ⟨S16, .i32⟩
  | .local _ .smem, ⟨1, _⟩ => ⟨S16, .i32⟩
  | .local _ .smem, ⟨2, _⟩ => ⟨S16, .i32⟩
  | .local _ .smem, ⟨3, _⟩ => ⟨S16, .i32⟩
  | .local _ .smem, ⟨4, _⟩ => ⟨S16, .i32⟩
  | .local _ .smem, ⟨5, _⟩ => ⟨S16, .i32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0_0 : Ref sig .tc := ⟨.hbm, 5, rfl⟩
abbrev main_v0_1 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_v12 : Ref sig .tc := ⟨.hbm, 23, rfl⟩
abbrev main_call1_v13 : Ref sig .tc := ⟨.hbm, 24, rfl⟩
abbrev main_call1_v14 : Ref sig .tc := ⟨.hbm, 25, rfl⟩
abbrev main_call1_v15 : Ref sig .tc := ⟨.hbm, 26, rfl⟩
abbrev main_call1_v16 : Ref sig .tc := ⟨.hbm, 27, rfl⟩
abbrev main_call1_c : Ref sig .tc := ⟨.hbm, 28, rfl⟩
abbrev main_call1_v17 : Ref sig .tc := ⟨.hbm, 29, rfl⟩
abbrev main_call1_v18 : Ref sig .tc := ⟨.hbm, 30, rfl⟩
abbrev main_call1_v19 : Ref sig .tc := ⟨.hbm, 31, rfl⟩
abbrev main_call1_c_0 : Ref sig .tc := ⟨.hbm, 32, rfl⟩
abbrev main_call1_v20 : Ref sig .tc := ⟨.hbm, 33, rfl⟩
abbrev main_call1_v21 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_c_0 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_1 : Ref sig .tc := ⟨.hbm, 51, rfl⟩
abbrev main_v19 : Ref sig .tc := ⟨.hbm, 52, rfl⟩
abbrev main_v20 : Ref sig .tc := ⟨.hbm, 53, rfl⟩
abbrev main_c_2 : Ref sig .tc := ⟨.hbm, 54, rfl⟩
abbrev main_v21 : Ref sig .tc := ⟨.hbm, 55, rfl⟩
abbrev main_v22 : Ref sig .tc := ⟨.hbm, 56, rfl⟩
abbrev main_c_3 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c_4 : Ref sig .tc := ⟨.hbm, 61, rfl⟩
abbrev main_v26 : Ref sig .tc := ⟨.hbm, 62, rfl⟩
abbrev main_v27 : Ref sig .tc := ⟨.hbm, 63, rfl⟩
abbrev main_c_5 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v35 : Ref sig .tc := ⟨.hbm, 76, rfl⟩
abbrev main_c_6 : Ref sig .tc := ⟨.hbm, 77, rfl⟩
abbrev main_v36 : Ref sig .tc := ⟨.hbm, 78, rfl⟩
abbrev main_v37 : Ref sig .tc := ⟨.hbm, 79, rfl⟩
abbrev main_c_7 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_c_8 : Ref sig .tc := ⟨.hbm, 84, rfl⟩
abbrev main_v41 : Ref sig .tc := ⟨.hbm, 85, rfl⟩
abbrev main_v42 : Ref sig .tc := ⟨.hbm, 86, rfl⟩
abbrev main_c_9 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_10 : Ref sig .tc := ⟨.hbm, 95, rfl⟩
abbrev main_v50 : Ref sig .tc := ⟨.hbm, 96, rfl⟩
abbrev main_v51 : Ref sig .tc := ⟨.hbm, 97, rfl⟩
abbrev main_c_11 : Ref sig .tc := ⟨.hbm, 98, rfl⟩
abbrev main_call3_v0 : Ref sig .tc := ⟨.hbm, 99, rfl⟩
abbrev main_call3_v1 : Ref sig .tc := ⟨.hbm, 100, rfl⟩
abbrev main_v52 : Ref sig .tc := ⟨.hbm, 101, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_scratch0 : Ref sig .tc := ⟨.vmem, 6, rfl⟩
abbrev cc1_scratch1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc0_stg0_0 : Ref sig .tc := ⟨.smem, 0, rfl⟩
abbrev cc0_stg1_0 : Ref sig .tc := ⟨.smem, 1, rfl⟩
abbrev cc1_stg0_0 : Ref sig .tc := ⟨.smem, 2, rfl⟩
abbrev cc1_stg1_0 : Ref sig .tc := ⟨.smem, 3, rfl⟩
abbrev cc2_stg0_0 : Ref sig .tc := ⟨.smem, 4, rfl⟩
abbrev cc2_stg1_0 : Ref sig .tc := ⟨.smem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem1_0 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

@[reducible] def k1_t1_loop : Scf.Loop 32 :=
  let c0_i32 : BitVec 32 := 0#32
  let c50_i32 : BitVec 32 := 50#32
  let v463 : BitVec 32 := Scalar.addi c0_i32 c50_i32
  let c1_i32 : BitVec 32 := 1#32
  ⟨c0_i32, v463, c1_i32⟩
abbrev stage1_0 : Fin 1 → Memref sig .tc .smem S16 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S16 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8192x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨1, ![16], ![false]⟩

def k2_off1 (i : grid2.Coords) : Fin 1 → Nat :=
  let arg0 : BitVec 32 := BitVec.ofNat 32 (i 0).val
  let v0 : Index := Scalar.indexCast arg0
  ![v0.toNat]
def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .smem S16 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S16 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S16x512x512 : Shape := ⟨3, ![16, 512, 512]⟩
abbrev S16 : Shape := ⟨1, ![16]⟩
abbrev S513 : Shape := ⟨1, ![513]⟩
abbrev S513x1 : Shape := ⟨2, ![513, 1]⟩
abbrev S1x513 : Shape := ⟨2, ![1, 513]⟩
abbrev S1x513x1 : Shape := ⟨3, ![1, 513, 1]⟩
abbrev S16x1x1 : Shape := ⟨3, ![16, 1, 1]⟩
abbrev S16x513x1 : Shape := ⟨3, ![16, 513, 1]⟩
abbrev S1x1x513 : Shape := ⟨3, ![1, 1, 513]⟩
abbrev S16x1x513 : Shape := ⟨3, ![16, 1, 513]⟩
abbrev S16x513x513 : Shape := ⟨3, ![16, 513, 513]⟩
abbrev S_ : Shape := ⟨0, ![]⟩
abbrev S513x513 : Shape := ⟨2, ![513, 513]⟩
abbrev S16x1 : Shape := ⟨2, ![16, 1]⟩
abbrev S16x513 : Shape := ⟨2, ![16, 513]⟩
abbrev S512 : Shape := ⟨1, ![512]⟩
abbrev S512x1 : Shape := ⟨2, ![512, 1]⟩
abbrev S1x512 : Shape := ⟨2, ![1, 512]⟩
abbrev S1x512x1 : Shape := ⟨3, ![1, 512, 1]⟩
abbrev S16x512x1 : Shape := ⟨3, ![16, 512, 1]⟩
abbrev S1x1x512 : Shape := ⟨3, ![1, 1, 512]⟩
abbrev S16x1x512 : Shape := ⟨3, ![16, 1, 512]⟩
abbrev S512x512 : Shape := ⟨2, ![512, 512]⟩
abbrev S16x512 : Shape := ⟨2, ![16, 512]⟩
abbrev S263169 : Shape := ⟨1, ![263169]⟩
abbrev S1x263169 : Shape := ⟨2, ![1, 263169]⟩
abbrev S16x263169 : Shape := ⟨2, ![16, 263169]⟩
abbrev S16x263169x1 : Shape := ⟨3, ![16, 263169, 1]⟩
abbrev S16x263169x2 : Shape := ⟨3, ![16, 263169, 2]⟩

abbrev nBuf : Space → Nat
  | .hbm => 369
  | .vmem => 0
  | .smem => 0
  | _ => 0

abbrev hbmTy0_0 (i : Nat) : BufTy := match i % 128 with
  | 0 => ⟨S16x512x512, .f32⟩
  | 1 => ⟨S16, .i32⟩
  | 2 => ⟨S16, .i32⟩
  | 3 => ⟨S513, .i32⟩
  | 4 => ⟨S513x1, .i32⟩
  | 5 => ⟨S513, .i32⟩
  | 6 => ⟨S1x513, .i32⟩
  | 7 => ⟨S1x513x1, .i32⟩
  | 8 => ⟨S16x1x1, .i32⟩
  | 9 => ⟨S16x513x1, .i32⟩
  | 10 => ⟨S16x513x1, .i32⟩
  | 11 => ⟨S16x513x1, .i1⟩
  | 12 => ⟨S1x1x513, .i32⟩
  | 13 => ⟨S16x1x1, .i32⟩
  | 14 => ⟨S16x1x513, .i32⟩
  | 15 => ⟨S16x1x513, .i32⟩
  | 16 => ⟨S16x1x513, .i1⟩
  | 17 => ⟨S16x513x513, .i1⟩
  | 18 => ⟨S16x513x513, .i1⟩
  | 19 => ⟨S16x513x513, .i1⟩
  | 20 => ⟨S1x513x1, .i32⟩
  | 21 => ⟨S16x1x1, .i32⟩
  | 22 => ⟨S16x513x1, .i32⟩
  | 23 => ⟨S16x513x1, .i32⟩
  | 24 => ⟨S16x513x1, .i1⟩
  | 25 => ⟨S1x1x513, .i32⟩
  | 26 => ⟨S16x1x1, .i32⟩
  | 27 => ⟨S16x1x513, .i32⟩
  | 28 => ⟨S16x1x513, .i32⟩
  | 29 => ⟨S16x1x513, .i1⟩
  | 30 => ⟨S16x513x513, .i1⟩
  | 31 => ⟨S16x513x513, .i1⟩
  | 32 => ⟨S16x513x513, .i1⟩
  | 33 => ⟨S_, .i32⟩
  | 34 => ⟨S_, .f32⟩
  | 35 => ⟨S16x513x513, .f32⟩
  | 36 => ⟨S_, .f32⟩
  | 37 => ⟨S_, .f32⟩
  | 38 => ⟨S513x513, .f32⟩
  | 39 => ⟨S16x513x513, .f32⟩
  | 40 => ⟨S16x513x513, .f32⟩
  | 41 => ⟨S_, .f32⟩
  | 42 => ⟨S16x513x513, .f32⟩
  | 43 => ⟨S16x513x513, .f32⟩
  | 44 => ⟨S16x513x513, .f32⟩
  | 45 => ⟨S_, .f32⟩
  | 46 => ⟨S_, .f32⟩
  | 47 => ⟨S513x513, .f32⟩
  | 48 => ⟨S16x513x513, .f32⟩
  | 49 => ⟨S16x513x513, .f32⟩
  | 50 => ⟨S513, .i32⟩
  | 51 => ⟨S513, .i32⟩
  | 52 => ⟨S16, .f32⟩
  | 53 => ⟨S16, .f32⟩
  | 54 => ⟨S1x513, .i32⟩
  | 55 => ⟨S16x1, .i32⟩
  | 56 => ⟨S16x513, .i32⟩
  | 57 => ⟨S16x513, .i32⟩
  | 58 => ⟨S16x513, .i1⟩
  | 59 => ⟨S1x513, .i32⟩
  | 60 => ⟨S16x1, .i32⟩
  | 61 => ⟨S16x513, .i32⟩
  | 62 => ⟨S16x513, .i32⟩
  | 63 => ⟨S16x513, .i1⟩
  | 64 => ⟨S_, .f32⟩
  | 65 => ⟨S_, .f32⟩
  | 66 => ⟨S16x513, .f32⟩
  | 67 => ⟨S513, .f32⟩
  | 68 => ⟨S16x513, .f32⟩
  | 69 => ⟨S16x513, .f32⟩
  | 70 => ⟨S_, .f32⟩
  | 71 => ⟨S_, .f32⟩
  | 72 => ⟨S513, .f32⟩
  | 73 => ⟨S16x513, .f32⟩
  | 74 => ⟨S16x513, .f32⟩
  | 75 => ⟨S1x513, .i32⟩
  | 76 => ⟨S16x1, .i32⟩
  | 77 => ⟨S16x513, .i32⟩
  | 78 => ⟨S16x513, .i32⟩
  | 79 => ⟨S16x513, .i1⟩
  | 80 => ⟨S1x513, .i32⟩
  | 81 => ⟨S16x1, .i32⟩
  | 82 => ⟨S16x513, .i32⟩
  | 83 => ⟨S16x513, .i32⟩
  | 84 => ⟨S16x513, .i1⟩
  | 85 => ⟨S_, .f32⟩
  | 86 => ⟨S_, .f32⟩
  | 87 => ⟨S16x513, .f32⟩
  | 88 => ⟨S513, .f32⟩
  | 89 => ⟨S16x513, .f32⟩
  | 90 => ⟨S16x513, .f32⟩
  | 91 => ⟨S_, .f32⟩
  | 92 => ⟨S_, .f32⟩
  | 93 => ⟨S513, .f32⟩
  | 94 => ⟨S16x513, .f32⟩
  | 95 => ⟨S16x513, .f32⟩
  | 96 => ⟨S_, .f32⟩
  | 97 => ⟨S513, .f32⟩
  | 98 => ⟨S_, .f32⟩
  | 99 => ⟨S513, .f32⟩
  | 100 => ⟨S16x513, .f32⟩
  | 101 => ⟨S16x513, .f32⟩
  | 102 => ⟨S_, .i32⟩
  | 103 => ⟨S16x513x513, .f32⟩
  | 104 => ⟨S16x513, .f32⟩
  | 105 => ⟨S16x513, .f32⟩
  | 106 => ⟨S_, .i32⟩
  | 107 => ⟨S16x513, .f32⟩
  | 108 => ⟨S16x513, .f32⟩
  | 109 => ⟨S_, .i32⟩
  | 110 => ⟨S_, .i1⟩
  | 111 => ⟨S16x513, .f32⟩
  | 112 => ⟨S_, .f32⟩
  | 113 => ⟨S16x513, .f32⟩
  | 114 => ⟨S16x513, .i1⟩
  | 115 => ⟨S_, .f32⟩
  | 116 => ⟨S16x513, .f32⟩
  | 117 => ⟨S16x513, .i1⟩
  | 118 => ⟨S_, .f32⟩
  | 119 => ⟨S_, .f32⟩
  | 120 => ⟨S513, .f32⟩
  | 121 => ⟨S16x513, .f32⟩
  | 122 => ⟨S16x513, .f32⟩
  | 123 => ⟨S16x513, .f32⟩
  | 124 => ⟨S_, .f32⟩
  | 125 => ⟨S_, .f32⟩
  | 126 => ⟨S513, .f32⟩
  | 127 => ⟨S16x513, .f32⟩
  | _ => ⟨S16x512x512, .f32⟩

abbrev hbmTy0_1 (i : Nat) : BufTy := match i % 128 with
  | 0 => ⟨S16x513, .f32⟩
  | 1 => ⟨S16x513x513, .f32⟩
  | 2 => ⟨S16x513, .f32⟩
  | 3 => ⟨S_, .f32⟩
  | 4 => ⟨S16x513, .f32⟩
  | 5 => ⟨S16x513, .i1⟩
  | 6 => ⟨S_, .f32⟩
  | 7 => ⟨S16x513, .f32⟩
  | 8 => ⟨S16x513, .i1⟩
  | 9 => ⟨S_, .f32⟩
  | 10 => ⟨S_, .f32⟩
  | 11 => ⟨S513, .f32⟩
  | 12 => ⟨S16x513, .f32⟩
  | 13 => ⟨S16x513, .f32⟩
  | 14 => ⟨S16x513, .f32⟩
  | 15 => ⟨S_, .f32⟩
  | 16 => ⟨S_, .f32⟩
  | 17 => ⟨S513, .f32⟩
  | 18 => ⟨S16x513, .f32⟩
  | 19 => ⟨S16x513, .f32⟩
  | 20 => ⟨S_, .i32⟩
  | 21 => ⟨S_, .i32⟩
  | 22 => ⟨S16x513x1, .f32⟩
  | 23 => ⟨S16x513x513, .f32⟩
  | 24 => ⟨S16x513x513, .f32⟩
  | 25 => ⟨S16x1x513, .f32⟩
  | 26 => ⟨S16x513x513, .f32⟩
  | 27 => ⟨S16x513x513, .f32⟩
  | 28 => ⟨S16x512x512, .f32⟩
  | 29 => ⟨S512, .i32⟩
  | 30 => ⟨S512x1, .i32⟩
  | 31 => ⟨S512, .i32⟩
  | 32 => ⟨S1x512, .i32⟩
  | 33 => ⟨S1x512x1, .i32⟩
  | 34 => ⟨S16x1x1, .i32⟩
  | 35 => ⟨S16x512x1, .i32⟩
  | 36 => ⟨S16x512x1, .i32⟩
  | 37 => ⟨S16x512x1, .i1⟩
  | 38 => ⟨S1x1x512, .i32⟩
  | 39 => ⟨S16x1x1, .i32⟩
  | 40 => ⟨S16x1x512, .i32⟩
  | 41 => ⟨S16x1x512, .i32⟩
  | 42 => ⟨S16x1x512, .i1⟩
  | 43 => ⟨S16x512x512, .i1⟩
  | 44 => ⟨S16x512x512, .i1⟩
  | 45 => ⟨S16x512x512, .i1⟩
  | 46 => ⟨S_, .f32⟩
  | 47 => ⟨S_, .f32⟩
  | 48 => ⟨S512x512, .f32⟩
  | 49 => ⟨S16x512x512, .f32⟩
  | 50 => ⟨S16x512x512, .f32⟩
  | 51 => ⟨S_, .f32⟩
  | 52 => ⟨S16x512, .f32⟩
  | 53 => ⟨S16x512x1, .f32⟩
  | 54 => ⟨S_, .f32⟩
  | 55 => ⟨S16x512, .f32⟩
  | 56 => ⟨S16x1x512, .f32⟩
  | 57 => ⟨S16x512x512, .f32⟩
  | 58 => ⟨S16x512x512, .i1⟩
  | 59 => ⟨S16x512x512, .i1⟩
  | 60 => ⟨S16x512x512, .f32⟩
  | 61 => ⟨S16x512x512, .i1⟩
  | 62 => ⟨S16x512x512, .i1⟩
  | 63 => ⟨S512, .i32⟩
  | 64 => ⟨S1x512, .i32⟩
  | 65 => ⟨S16x1, .i32⟩
  | 66 => ⟨S16x512, .i32⟩
  | 67 => ⟨S16x512, .i32⟩
  | 68 => ⟨S16x512, .i1⟩
  | 69 => ⟨S_, .i1⟩
  | 70 => ⟨S16x512, .i1⟩
  | 71 => ⟨S16x512, .i1⟩
  | 72 => ⟨S16x512, .i1⟩
  | 73 => ⟨S512, .i32⟩
  | 74 => ⟨S1x512, .i32⟩
  | 75 => ⟨S16x1, .i32⟩
  | 76 => ⟨S16x512, .i32⟩
  | 77 => ⟨S16x512, .i32⟩
  | 78 => ⟨S16x512, .i1⟩
  | 79 => ⟨S_, .i1⟩
  | 80 => ⟨S16x512, .i1⟩
  | 81 => ⟨S16x512, .i1⟩
  | 82 => ⟨S16x512, .i1⟩
  | 83 => ⟨S_, .i32⟩
  | 84 => ⟨S_, .i32⟩
  | 85 => ⟨S_, .i32⟩
  | 86 => ⟨S_, .i1⟩
  | 87 => ⟨S_, .i1⟩
  | 88 => ⟨S16x513x513, .i1⟩
  | 89 => ⟨S_, .i32⟩
  | 90 => ⟨S_, .i32⟩
  | 91 => ⟨S_, .i32⟩
  | 92 => ⟨S_, .i1⟩
  | 93 => ⟨S_, .i1⟩
  | 94 => ⟨S16x513, .i1⟩
  | 95 => ⟨S_, .i32⟩
  | 96 => ⟨S_, .i32⟩
  | 97 => ⟨S_, .i32⟩
  | 98 => ⟨S_, .i1⟩
  | 99 => ⟨S_, .i1⟩
  | 100 => ⟨S16x513, .i1⟩
  | 101 => ⟨S1x1x513, .i32⟩
  | 102 => ⟨S16x1x1, .i32⟩
  | 103 => ⟨S16x1x513, .i32⟩
  | 104 => ⟨S16x1x513, .i32⟩
  | 105 => ⟨S16x1x513, .i1⟩
  | 106 => ⟨S16x513x1, .i1⟩
  | 107 => ⟨S16x513x513, .i1⟩
  | 108 => ⟨S16x513x513, .i1⟩
  | 109 => ⟨S16x513x513, .i1⟩
  | 110 => ⟨S16x513x513, .i1⟩
  | 111 => ⟨S1x513x1, .i32⟩
  | 112 => ⟨S16x1x1, .i32⟩
  | 113 => ⟨S16x513x1, .i32⟩
  | 114 => ⟨S16x513x1, .i32⟩
  | 115 => ⟨S16x513x1, .i1⟩
  | 116 => ⟨S16x1x513, .i1⟩
  | 117 => ⟨S16x513x513, .i1⟩
  | 118 => ⟨S16x513x513, .i1⟩
  | 119 => ⟨S16x513x513, .i1⟩
  | 120 => ⟨S16x513x513, .i1⟩
  | 121 => ⟨S263169, .i32⟩
  | 122 => ⟨S_, .i32⟩
  | 123 => ⟨S16, .i32⟩
  | 124 => ⟨S16, .i32⟩
  | 125 => ⟨S_, .i32⟩
  | 126 => ⟨S16, .i32⟩
  | 127 => ⟨S16, .i32⟩
  | _ => ⟨S16x512x512, .f32⟩

abbrev hbmTy0_2 (i : Nat) : BufTy := match i % 128 with
  | 0 => ⟨S16, .i32⟩
  | 1 => ⟨S_, .i32⟩
  | 2 => ⟨S16, .i32⟩
  | 3 => ⟨S16, .i32⟩
  | 4 => ⟨S1x263169, .i32⟩
  | 5 => ⟨S16x1, .i32⟩
  | 6 => ⟨S16x263169, .i32⟩
  | 7 => ⟨S16x263169, .i32⟩
  | 8 => ⟨S16x263169, .i32⟩
  | 9 => ⟨S263169, .i32⟩
  | 10 => ⟨S16, .i32⟩
  | 11 => ⟨S1x263169, .i32⟩
  | 12 => ⟨S16x1, .i32⟩
  | 13 => ⟨S16x263169, .i32⟩
  | 14 => ⟨S16x263169, .i32⟩
  | 15 => ⟨S16x263169, .i1⟩
  | 16 => ⟨S1x263169, .i32⟩
  | 17 => ⟨S16x1, .i32⟩
  | 18 => ⟨S16x263169, .i32⟩
  | 19 => ⟨S16x263169, .i32⟩
  | 20 => ⟨S16x263169, .i32⟩
  | 21 => ⟨S_, .i32⟩
  | 22 => ⟨S16x263169, .i32⟩
  | 23 => ⟨S16x263169, .i1⟩
  | 24 => ⟨S16x263169, .i1⟩
  | 25 => ⟨S_, .i32⟩
  | 26 => ⟨S16x263169, .i32⟩
  | 27 => ⟨S16x263169, .i32⟩
  | 28 => ⟨S16x263169, .i32⟩
  | 29 => ⟨S_, .i32⟩
  | 30 => ⟨S16x263169, .i32⟩
  | 31 => ⟨S16x263169, .i32⟩
  | 32 => ⟨S_, .i32⟩
  | 33 => ⟨S16, .i32⟩
  | 34 => ⟨S16, .i32⟩
  | 35 => ⟨S_, .i32⟩
  | 36 => ⟨S16, .i32⟩
  | 37 => ⟨S16, .i1⟩
  | 38 => ⟨S_, .i32⟩
  | 39 => ⟨S16, .i32⟩
  | 40 => ⟨S16, .i32⟩
  | 41 => ⟨S1x263169, .i32⟩
  | 42 => ⟨S16x1, .i32⟩
  | 43 => ⟨S16x263169, .i32⟩
  | 44 => ⟨S16x263169, .i32⟩
  | 45 => ⟨S16x263169, .i32⟩
  | 46 => ⟨S_, .i32⟩
  | 47 => ⟨S16x263169, .i32⟩
  | 48 => ⟨S16x263169, .i1⟩
  | 49 => ⟨S_, .i32⟩
  | 50 => ⟨S16x263169, .i32⟩
  | 51 => ⟨S16x263169, .i1⟩
  | 52 => ⟨S_, .i32⟩
  | 53 => ⟨S16, .i32⟩
  | 54 => ⟨S16, .i1⟩
  | 55 => ⟨S16x1, .i1⟩
  | 56 => ⟨S16x263169, .i1⟩
  | 57 => ⟨S16x263169, .i1⟩
  | 58 => ⟨S16x263169, .i1⟩
  | 59 => ⟨S16x1, .i32⟩
  | 60 => ⟨S16x263169, .i32⟩
  | 61 => ⟨S16x263169, .i32⟩
  | 62 => ⟨S16x263169, .i32⟩
  | 63 => ⟨S1x263169, .i32⟩
  | 64 => ⟨S16x1, .i32⟩
  | 65 => ⟨S16x263169, .i32⟩
  | 66 => ⟨S16x263169, .i32⟩
  | 67 => ⟨S16x263169, .i1⟩
  | 68 => ⟨S_, .i32⟩
  | 69 => ⟨S16x263169, .i32⟩
  | 70 => ⟨S16x263169, .i1⟩
  | 71 => ⟨S_, .i32⟩
  | 72 => ⟨S16x263169, .i32⟩
  | 73 => ⟨S16x263169, .i32⟩
  | 74 => ⟨S16x263169, .i32⟩
  | 75 => ⟨S_, .i32⟩
  | 76 => ⟨S16x263169, .i32⟩
  | 77 => ⟨S16x263169, .i1⟩
  | 78 => ⟨S_, .i32⟩
  | 79 => ⟨S16x263169, .i32⟩
  | 80 => ⟨S16x263169, .i32⟩
  | 81 => ⟨S16x263169, .i32⟩
  | 82 => ⟨S16x263169x1, .i32⟩
  | 83 => ⟨S16x263169x1, .i32⟩
  | 84 => ⟨S16x263169x2, .i32⟩
  | 85 => ⟨S16x263169, .f32⟩
  | 86 => ⟨S_, .f32⟩
  | 87 => ⟨S_, .f32⟩
  | 88 => ⟨S263169, .f32⟩
  | 89 => ⟨S16x263169, .f32⟩
  | 90 => ⟨S16x263169, .f32⟩
  | 91 => ⟨S_, .i32⟩
  | 92 => ⟨S16x263169, .i32⟩
  | 93 => ⟨S16x263169, .i1⟩
  | 94 => ⟨S_, .i32⟩
  | 95 => ⟨S16x263169, .i32⟩
  | 96 => ⟨S16x263169, .i32⟩
  | 97 => ⟨S16x263169, .i32⟩
  | 98 => ⟨S_, .i32⟩
  | 99 => ⟨S16x263169, .i32⟩
  | 100 => ⟨S16x263169, .i1⟩
  | 101 => ⟨S_, .i32⟩
  | 102 => ⟨S16x263169, .i32⟩
  | 103 => ⟨S16x263169, .i32⟩
  | 104 => ⟨S16x263169, .i32⟩
  | 105 => ⟨S16x263169x1, .i32⟩
  | 106 => ⟨S16x263169x1, .i32⟩
  | 107 => ⟨S16x263169x2, .i32⟩
  | 108 => ⟨S16x263169, .i1⟩
  | 109 => ⟨S_, .i1⟩
  | 110 => ⟨S263169, .i1⟩
  | 111 => ⟨S16x263169, .i1⟩
  | 112 => ⟨S16x263169, .i1⟩
  | _ => ⟨S16x512x512, .f32⟩

abbrev hbmTy (i : Nat) : BufTy := match i / 128 with
  | 0 => hbmTy0_0 i
  | 1 => hbmTy0_1 i
  | 2 => hbmTy0_2 i
  | _ => ⟨S16x512x512, .f32⟩

abbrev bufTy : (tb : Table) → Fin (tcTables nBuf tb) → BufTy
  | .hbm, ⟨i, _⟩ => hbmTy i
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_c : Ref sig .tc := ⟨.hbm, 33, rfl⟩
abbrev main_call0_v0 : Ref sig .tc := ⟨.hbm, 34, rfl⟩
abbrev main_v30 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v31 : Ref sig .tc := ⟨.hbm, 40, rfl⟩
abbrev main_cst_0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_2 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_v50 : Ref sig .tc := ⟨.hbm, 69, rfl⟩
abbrev main_cst_3 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_4 : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_call5_v3 : Ref sig .tc := ⟨.hbm, 89, rfl⟩
abbrev main_v62 : Ref sig .tc := ⟨.hbm, 90, rfl⟩
abbrev main_cst_5 : Ref sig .tc := ⟨.hbm, 91, rfl⟩
abbrev main_call6_v0 : Ref sig .tc := ⟨.hbm, 92, rfl⟩
abbrev main_call6_v1 : Ref sig .tc := ⟨.hbm, 93, rfl⟩
abbrev main_call6_v2 : Ref sig .tc := ⟨.hbm, 94, rfl⟩
abbrev main_v63 : Ref sig .tc := ⟨.hbm, 95, rfl⟩
abbrev main_cst_6 : Ref sig .tc := ⟨.hbm, 96, rfl⟩
abbrev main_v64 : Ref sig .tc := ⟨.hbm, 97, rfl⟩
abbrev main_cst_7 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_8 : Ref sig .tc := ⟨.hbm, 102, rfl⟩
abbrev main_v68_0 : Ref sig .tc := ⟨.hbm, 103, rfl⟩
abbrev main_v68_1 : Ref sig .tc := ⟨.hbm, 104, rfl⟩
abbrev main_v68_2 : Ref sig .tc := ⟨.hbm, 105, rfl⟩
abbrev main_v68_3 : Ref sig .tc := ⟨.hbm, 106, rfl⟩
abbrev main_v68_4 : Ref sig .tc := ⟨.hbm, 107, rfl⟩
abbrev main_v68_5 : Ref sig .tc := ⟨.hbm, 108, rfl⟩
abbrev main_while0c_c_37 : Ref sig .tc := ⟨.hbm, 109, rfl⟩
abbrev main_while0c_v194 : Ref sig .tc := ⟨.hbm, 110, rfl⟩
abbrev main_while0b_v194 : Ref sig .tc := ⟨.hbm, 111, rfl⟩
abbrev main_while0b_cst_37 : Ref sig .tc := ⟨.hbm, 112, rfl⟩
abbrev main_while0b_v195 : Ref sig .tc := ⟨.hbm, 113, rfl⟩
abbrev main_while0b_v196 : Ref sig .tc := ⟨.hbm, 114, rfl⟩
abbrev main_while0b_cst_38 : Ref sig .tc := ⟨.hbm, 115, rfl⟩
abbrev main_while0b_v197 : Ref sig .tc := ⟨.hbm, 116, rfl⟩
abbrev main_while0b_v198 : Ref sig .tc := ⟨.hbm, 117, rfl⟩
abbrev main_while0b_cst_39 : Ref sig .tc := ⟨.hbm, 118, rfl⟩
abbrev main_while0b_call7_v0 : Ref sig .tc := ⟨.hbm, 119, rfl⟩
abbrev main_while0b_call7_v1 : Ref sig .tc := ⟨.hbm, 120, rfl⟩
abbrev main_while0b_call7_v2 : Ref sig .tc := ⟨.hbm, 121, rfl⟩
abbrev main_while0b_v199 : Ref sig .tc := ⟨.hbm, 122, rfl⟩
abbrev main_while0b_v200 : Ref sig .tc := ⟨.hbm, 123, rfl⟩
abbrev main_while0b_cst_40 : Ref sig .tc := ⟨.hbm, 124, rfl⟩
abbrev main_while0b_call8_v0 : Ref sig .tc := ⟨.hbm, 125, rfl⟩
abbrev main_while0b_call8_v1 : Ref sig .tc := ⟨.hbm, 126, rfl⟩
abbrev main_while0b_call8_v2 : Ref sig .tc := ⟨.hbm, 127, rfl⟩
abbrev main_while0b_v201 : Ref sig .tc := ⟨.hbm, 128, rfl⟩
abbrev main_while0b_v202 : Ref sig .tc := ⟨.hbm, 129, rfl⟩
abbrev main_while0b_v203 : Ref sig .tc := ⟨.hbm, 130, rfl⟩
abbrev main_while0b_cst_41 : Ref sig .tc := ⟨.hbm, 131, rfl⟩
abbrev main_while0b_v204 : Ref sig .tc := ⟨.hbm, 132, rfl⟩
abbrev main_while0b_v205 : Ref sig .tc := ⟨.hbm, 133, rfl⟩
abbrev main_while0b_cst_42 : Ref sig .tc := ⟨.hbm, 134, rfl⟩
abbrev main_while0b_v206 : Ref sig .tc := ⟨.hbm, 135, rfl⟩
abbrev main_while0b_v207 : Ref sig .tc := ⟨.hbm, 136, rfl⟩
abbrev main_while0b_cst_43 : Ref sig .tc := ⟨.hbm, 137, rfl⟩
abbrev main_while0b_call9_v0 : Ref sig .tc := ⟨.hbm, 138, rfl⟩
abbrev main_while0b_call9_v1 : Ref sig .tc := ⟨.hbm, 139, rfl⟩
abbrev main_while0b_call9_v2 : Ref sig .tc := ⟨.hbm, 140, rfl⟩
abbrev main_while0b_v208 : Ref sig .tc := ⟨.hbm, 141, rfl⟩
abbrev main_while0b_v209 : Ref sig .tc := ⟨.hbm, 142, rfl⟩
abbrev main_while0b_cst_44 : Ref sig .tc := ⟨.hbm, 143, rfl⟩
abbrev main_while0b_call10_v0 : Ref sig .tc := ⟨.hbm, 144, rfl⟩
abbrev main_while0b_call10_v1 : Ref sig .tc := ⟨.hbm, 145, rfl⟩
abbrev main_while0b_call10_v2 : Ref sig .tc := ⟨.hbm, 146, rfl⟩
abbrev main_while0b_v210 : Ref sig .tc := ⟨.hbm, 147, rfl⟩
abbrev main_while0b_c_45 : Ref sig .tc := ⟨.hbm, 148, rfl⟩
abbrev main_while0b_v211 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_cst_9 : Ref sig .tc := ⟨.hbm, 174, rfl⟩
abbrev main_call11_v0 : Ref sig .tc := ⟨.hbm, 175, rfl⟩
abbrev main_call11_v1 : Ref sig .tc := ⟨.hbm, 176, rfl⟩
abbrev main_call11_v2 : Ref sig .tc := ⟨.hbm, 177, rfl⟩
abbrev main_v93 : Ref sig .tc := ⟨.hbm, 178, rfl⟩
abbrev main_cst_10 : Ref sig .tc := ⟨.hbm, 179, rfl⟩
abbrev main_v94 : Ref sig .tc := ⟨.hbm, 180, rfl⟩
abbrev main_v95 : Ref sig .tc := ⟨.hbm, 181, rfl⟩
abbrev main_cst_11 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_c_12 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_c_13 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_c_14 : Ref sig .tc := ⟨.hbm, 211, rfl⟩
abbrev main_call12_c : Ref sig .tc := ⟨.hbm, 212, rfl⟩
abbrev main_call12_v0 : Ref sig .tc := ⟨.hbm, 213, rfl⟩
abbrev main_call12_v1 : Ref sig .tc := ⟨.hbm, 214, rfl⟩
abbrev main_call12_v2 : Ref sig .tc := ⟨.hbm, 215, rfl⟩
abbrev main_v122 : Ref sig .tc := ⟨.hbm, 216, rfl⟩
abbrev main_c_15 : Ref sig .tc := ⟨.hbm, 217, rfl⟩
abbrev main_call13_c : Ref sig .tc := ⟨.hbm, 218, rfl⟩
abbrev main_call13_v0 : Ref sig .tc := ⟨.hbm, 219, rfl⟩
abbrev main_call13_v1 : Ref sig .tc := ⟨.hbm, 220, rfl⟩
abbrev main_call13_v2 : Ref sig .tc := ⟨.hbm, 221, rfl⟩
abbrev main_v123 : Ref sig .tc := ⟨.hbm, 222, rfl⟩
abbrev main_c_16 : Ref sig .tc := ⟨.hbm, 223, rfl⟩
abbrev main_call14_c : Ref sig .tc := ⟨.hbm, 224, rfl⟩
abbrev main_call14_v0 : Ref sig .tc := ⟨.hbm, 225, rfl⟩
abbrev main_call14_v1 : Ref sig .tc := ⟨.hbm, 226, rfl⟩
abbrev main_call14_v2 : Ref sig .tc := ⟨.hbm, 227, rfl⟩
abbrev main_v124 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_c_17 : Ref sig .tc := ⟨.hbm, 250, rfl⟩
abbrev main_v146 : Ref sig .tc := ⟨.hbm, 251, rfl⟩
abbrev main_v147 : Ref sig .tc := ⟨.hbm, 252, rfl⟩
abbrev main_c_18 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_c_19 : Ref sig .tc := ⟨.hbm, 257, rfl⟩
abbrev main_v151 : Ref sig .tc := ⟨.hbm, 258, rfl⟩
abbrev main_v152 : Ref sig .tc := ⟨.hbm, 259, rfl⟩
abbrev main_call15_v0 : Ref sig .tc := ⟨.hbm, 260, rfl⟩
abbrev main_call15_v1 : Ref sig .tc := ⟨.hbm, 261, rfl⟩
abbrev main_call15_v2 : Ref sig .tc := ⟨.hbm, 262, rfl⟩
abbrev main_call15_v3 : Ref sig .tc := ⟨.hbm, 263, rfl⟩
abbrev main_call15_v4 : Ref sig .tc := ⟨.hbm, 264, rfl⟩
abbrev main_call15_v5 : Ref sig .tc := ⟨.hbm, 265, rfl⟩
abbrev main_call15_v6 : Ref sig .tc := ⟨.hbm, 266, rfl⟩
abbrev main_call15_v7 : Ref sig .tc := ⟨.hbm, 267, rfl⟩
abbrev main_call15_v8 : Ref sig .tc := ⟨.hbm, 268, rfl⟩
abbrev main_call15_v9 : Ref sig .tc := ⟨.hbm, 269, rfl⟩
abbrev main_call15_v10 : Ref sig .tc := ⟨.hbm, 270, rfl⟩
abbrev main_call15_v11 : Ref sig .tc := ⟨.hbm, 271, rfl⟩
abbrev main_call15_v12 : Ref sig .tc := ⟨.hbm, 272, rfl⟩
abbrev main_call15_v13 : Ref sig .tc := ⟨.hbm, 273, rfl⟩
abbrev main_call15_v14 : Ref sig .tc := ⟨.hbm, 274, rfl⟩
abbrev main_call15_v15 : Ref sig .tc := ⟨.hbm, 275, rfl⟩
abbrev main_call15_v16 : Ref sig .tc := ⟨.hbm, 276, rfl⟩
abbrev main_call15_c : Ref sig .tc := ⟨.hbm, 277, rfl⟩
abbrev main_call15_v17 : Ref sig .tc := ⟨.hbm, 278, rfl⟩
abbrev main_call15_v18 : Ref sig .tc := ⟨.hbm, 279, rfl⟩
abbrev main_call15_v19 : Ref sig .tc := ⟨.hbm, 280, rfl⟩
abbrev main_call15_c_0 : Ref sig .tc := ⟨.hbm, 281, rfl⟩
abbrev main_call15_v20 : Ref sig .tc := ⟨.hbm, 282, rfl⟩
abbrev main_call15_v21 : Ref sig .tc := ⟨.hbm, 283, rfl⟩
abbrev main_v153 : Ref sig .tc := ⟨.hbm, 284, rfl⟩
abbrev main_c_20 : Ref sig .tc := ⟨.hbm, 285, rfl⟩
abbrev main_v154 : Ref sig .tc := ⟨.hbm, 286, rfl⟩
abbrev main_v155 : Ref sig .tc := ⟨.hbm, 287, rfl⟩
abbrev main_c_21 : Ref sig .tc := ⟨.hbm, 288, rfl⟩
abbrev main_v156 : Ref sig .tc := ⟨.hbm, 289, rfl⟩
abbrev main_v157 : Ref sig .tc := ⟨.hbm, 290, rfl⟩
abbrev main_call16_c : Ref sig .tc := ⟨.hbm, 291, rfl⟩
abbrev main_call16_v0 : Ref sig .tc := ⟨.hbm, 292, rfl⟩
abbrev main_call16_v1 : Ref sig .tc := ⟨.hbm, 293, rfl⟩
abbrev main_call16_c_0 : Ref sig .tc := ⟨.hbm, 294, rfl⟩
abbrev main_call16_call0_v0 : Ref sig .tc := ⟨.hbm, 295, rfl⟩
abbrev main_call16_v2 : Ref sig .tc := ⟨.hbm, 296, rfl⟩
abbrev main_call16_v3 : Ref sig .tc := ⟨.hbm, 297, rfl⟩
abbrev main_call16_v4 : Ref sig .tc := ⟨.hbm, 298, rfl⟩
abbrev main_call16_v5 : Ref sig .tc := ⟨.hbm, 299, rfl⟩
abbrev main_call16_v6 : Ref sig .tc := ⟨.hbm, 300, rfl⟩
abbrev main_call16_v7 : Ref sig .tc := ⟨.hbm, 301, rfl⟩
abbrev main_call16_c_1 : Ref sig .tc := ⟨.hbm, 302, rfl⟩
abbrev main_call16_v8 : Ref sig .tc := ⟨.hbm, 303, rfl⟩
abbrev main_call16_v9 : Ref sig .tc := ⟨.hbm, 304, rfl⟩
abbrev main_call16_c_2 : Ref sig .tc := ⟨.hbm, 305, rfl⟩
abbrev main_call16_v10 : Ref sig .tc := ⟨.hbm, 306, rfl⟩
abbrev main_call16_v11 : Ref sig .tc := ⟨.hbm, 307, rfl⟩
abbrev main_call16_c_3 : Ref sig .tc := ⟨.hbm, 308, rfl⟩
abbrev main_call16_v12 : Ref sig .tc := ⟨.hbm, 309, rfl⟩
abbrev main_call16_v13 : Ref sig .tc := ⟨.hbm, 310, rfl⟩
abbrev main_call16_v14 : Ref sig .tc := ⟨.hbm, 311, rfl⟩
abbrev main_call16_v15 : Ref sig .tc := ⟨.hbm, 312, rfl⟩
abbrev main_call16_v16 : Ref sig .tc := ⟨.hbm, 313, rfl⟩
abbrev main_call16_v17 : Ref sig .tc := ⟨.hbm, 314, rfl⟩
abbrev main_call16_v18 : Ref sig .tc := ⟨.hbm, 315, rfl⟩
abbrev main_call16_v19 : Ref sig .tc := ⟨.hbm, 316, rfl⟩
abbrev main_call16_v20 : Ref sig .tc := ⟨.hbm, 317, rfl⟩
abbrev main_v158 : Ref sig .tc := ⟨.hbm, 318, rfl⟩
abbrev main_v159 : Ref sig .tc := ⟨.hbm, 319, rfl⟩
abbrev main_v160 : Ref sig .tc := ⟨.hbm, 320, rfl⟩
abbrev main_v161 : Ref sig .tc := ⟨.hbm, 321, rfl⟩
abbrev main_v162 : Ref sig .tc := ⟨.hbm, 322, rfl⟩
abbrev main_v163 : Ref sig .tc := ⟨.hbm, 323, rfl⟩
abbrev main_c_22 : Ref sig .tc := ⟨.hbm, 324, rfl⟩
abbrev main_v164 : Ref sig .tc := ⟨.hbm, 325, rfl⟩
abbrev main_v165 : Ref sig .tc := ⟨.hbm, 326, rfl⟩
abbrev main_c_23 : Ref sig .tc := ⟨.hbm, 327, rfl⟩
abbrev main_v166 : Ref sig .tc := ⟨.hbm, 328, rfl⟩
abbrev main_v167 : Ref sig .tc := ⟨.hbm, 329, rfl⟩
abbrev main_v168 : Ref sig .tc := ⟨.hbm, 330, rfl⟩
abbrev main_c_24 : Ref sig .tc := ⟨.hbm, 331, rfl⟩
abbrev main_v169 : Ref sig .tc := ⟨.hbm, 332, rfl⟩
abbrev main_v170 : Ref sig .tc := ⟨.hbm, 333, rfl⟩
abbrev main_c_25 : Ref sig .tc := ⟨.hbm, 334, rfl⟩
abbrev main_v171 : Ref sig .tc := ⟨.hbm, 335, rfl⟩
abbrev main_v172 : Ref sig .tc := ⟨.hbm, 336, rfl⟩
abbrev main_v173 : Ref sig .tc := ⟨.hbm, 337, rfl⟩
abbrev main_v174 : Ref sig .tc := ⟨.hbm, 338, rfl⟩
abbrev main_v175 : Ref sig .tc := ⟨.hbm, 339, rfl⟩
abbrev main_v176 : Ref sig .tc := ⟨.hbm, 340, rfl⟩
abbrev main_v177 : Ref sig .tc := ⟨.hbm, 341, rfl⟩
abbrev main_cst_26 : Ref sig .tc := ⟨.hbm, 342, rfl⟩
abbrev main_call17_v0 : Ref sig .tc := ⟨.hbm, 343, rfl⟩
abbrev main_call17_v1 : Ref sig .tc := ⟨.hbm, 344, rfl⟩
abbrev main_call17_v2 : Ref sig .tc := ⟨.hbm, 345, rfl⟩
abbrev main_v178 : Ref sig .tc := ⟨.hbm, 346, rfl⟩
abbrev main_c_27 : Ref sig .tc := ⟨.hbm, 347, rfl⟩
abbrev main_v179 : Ref sig .tc := ⟨.hbm, 348, rfl⟩
abbrev main_v180 : Ref sig .tc := ⟨.hbm, 349, rfl⟩
abbrev main_c_28 : Ref sig .tc := ⟨.hbm, 350, rfl⟩
abbrev main_v181 : Ref sig .tc := ⟨.hbm, 351, rfl⟩
abbrev main_v182 : Ref sig .tc := ⟨.hbm, 352, rfl⟩
abbrev main_v183 : Ref sig .tc := ⟨.hbm, 353, rfl⟩
abbrev main_c_29 : Ref sig .tc := ⟨.hbm, 354, rfl⟩
abbrev main_v184 : Ref sig .tc := ⟨.hbm, 355, rfl⟩
abbrev main_v185 : Ref sig .tc := ⟨.hbm, 356, rfl⟩
abbrev main_c_30 : Ref sig .tc := ⟨.hbm, 357, rfl⟩
abbrev main_v186 : Ref sig .tc := ⟨.hbm, 358, rfl⟩
abbrev main_v187 : Ref sig .tc := ⟨.hbm, 359, rfl⟩
abbrev main_v188 : Ref sig .tc := ⟨.hbm, 360, rfl⟩
abbrev main_v189 : Ref sig .tc := ⟨.hbm, 361, rfl⟩
abbrev main_v190 : Ref sig .tc := ⟨.hbm, 362, rfl⟩
abbrev main_v191 : Ref sig .tc := ⟨.hbm, 363, rfl⟩
abbrev main_v192 : Ref sig .tc := ⟨.hbm, 364, rfl⟩
abbrev main_c_31 : Ref sig .tc := ⟨.hbm, 365, rfl⟩
abbrev main_call18_v0 : Ref sig .tc := ⟨.hbm, 366, rfl⟩
abbrev main_call18_v1 : Ref sig .tc := ⟨.hbm, 367, rfl⟩
abbrev main_v193 : Ref sig .tc := ⟨.hbm, 368, rfl⟩

abbrev nD : Nat := 1
abbrev τ : Topo := Topo.v7x

variable {F : FTy → Type} [FloatOps F]

abbrev main_while0_count : Scf.Loop 32 := ⟨0#32, 50#32, 1#32⟩
-- ==== Proof.RefFrame.lean ====
/- What the reference's run leaves unchanged: the buffers its loop does not write, its arguments, and the semaphore
   counters (it declares none). -/
module

public import proofs.«01_k».proof.Proof.Gen.ReferenceIdeal.Run
public import Idealize.ShloMosaic.Lib.Quiescent

@[expose] public section

set_option maxRecDepth 16384

noncomputable section

namespace Cert.ReferenceIdeal.Hand

open Idealize.ShloMosaic Idealize.ShloMosaic.TcCoe Idealize.SL.Sem
open Idealize.ShloMosaic.StableHlo
open Cert.ReferenceIdeal.Gen Cert.ReferenceIdeal.Value

variable {F : FTy → Type} [FloatOps F]

/-- Every reference that the loop's condition and body write. -/
abbrev loopWrites : List (Ref sig .tc) :=
  condOps_W ++ while0Ops0_W ++ while0Ops0_1_W ++ while0Ops0_2_W ++ while0Ops0_3_W ++ while0Ops0_4_W ++ while0Ops0_5_W
    ++ while0Ops0_6_W ++ while0Ops0_7_W ++ while0Ops0_8_W

/-- A buffer that the loop does not write is, before every trip, as it was at the loop's entry. -/
theorem atK_keep (m : (ℓ : Loc nD τ sig) → Buf (Elt F) ℓ) (c : Dev nD) {r : Ref sig .tc} (hr : r ∉ loopWrites) (k : ℕ) :
    atK m k c (Proc.devRef .tc r) = entryContents preI m c (Proc.devRef .tc r) := by
  simp only [loopWrites, List.mem_append, not_or] at hr
  obtain ⟨⟨⟨⟨⟨⟨⟨⟨⟨hc, h0⟩, h1⟩, h2⟩, h3⟩, h4⟩, h5⟩, h6⟩, h7⟩, h8⟩ := hr
  induction k with
  | zero => rfl
  | succ k ih =>
    show afterL bodyI (after condOps (atK m k c)) (Proc.devRef .tc r) = _
    simp only [bodyI, afterL_cons, afterL_nil]
    rw [after_of_writes_sub while0Ops0_8 _ while0Ops0_8_writes h8, after_of_writes_sub while0Ops0_7 _ while0Ops0_7_writes h7,
      after_of_writes_sub while0Ops0_6 _ while0Ops0_6_writes h6, after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]
    exact ih

/-- Every reference that the operations before the loop write. -/
abbrev lineWrites : List (Ref sig .tc) :=
  hostOps0_W ++ hostOps0_1_W ++ hostOps0_2_W ++ hostOps0_3_W ++ hostOps0_4_W ++ hostOps0_5_W ++ hostOps0_6_W ++ hostOps0_7_W
    ++ hostOps0_8_W ++ hostOps0_9_W ++ hostOps0_10_W ++ hostOps0_11_W ++ hostOps0_12_W ++ hostOps0_13_W ++ hostOps0_14_W

/-- A buffer that no operation before the loop writes is, at the loop's entry, as launched. -/
theorem entry_keep (V : Valuation τ sig (Elt F)) {r : Ref sig .tc} (hr : r ∉ lineWrites) :
    afterL preI V (Proc.devRef .tc r) = V (Proc.devRef .tc r) := by
  simp only [lineWrites, List.mem_append, not_or] at hr
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := hr
  simp only [preI, afterL_cons, afterL_nil]
  rw [after_of_writes_sub hostOps0_14 _ hostOps0_14_writes h14, after_of_writes_sub hostOps0_13 _ hostOps0_13_writes h13,
    after_of_writes_sub hostOps0_12 _ hostOps0_12_writes h12, after_of_writes_sub hostOps0_11 _ hostOps0_11_writes h11,
    after_of_writes_sub hostOps0_10 _ hostOps0_10_writes h10, after_of_writes_sub hostOps0_9 _ hostOps0_9_writes h9,
    after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The operations after the loop leave the argument arrays as they are. -/
theorem tail_keep (V : Valuation τ sig (Elt F)) :
    afterL postI V (Proc.devRef .tc main_arg0) = V (Proc.devRef .tc main_arg0)
    ∧ afterL postI V (Proc.devRef .tc main_arg1) = V (Proc.devRef .tc main_arg1)
    ∧ afterL postI V (Proc.devRef .tc main_arg2) = V (Proc.devRef .tc main_arg2) := by
  simp only [postI, afterL_cons, afterL_nil]
  refine ⟨?_, ?_, ?_⟩ <;> after_reads_simp

/-- A buffer that the loop does not write is, after the loop's last test of its condition, as it was at the entry. -/
theorem exit_keep (m : (ℓ : Loc nD τ sig) → Buf (Elt F) ℓ) (c : Dev nD) {r : Ref sig .tc} (hr : r ∉ loopWrites) :
    after condOps (atK m 50 c) (Proc.devRef .tc r) = entryContents preI m c (Proc.devRef .tc r) := by
  have hc : r ∉ condOps_W := fun h => hr (by simp only [loopWrites, List.mem_append]; tauto)
  rw [after_of_writes_sub condOps _ condOps_writes hc, atK_keep m c hr]

/-- The argument arrays end as they were launched. -/
theorem final_keep (m : (ℓ : Loc nD τ sig) → Buf (Elt F) ℓ) (c : Dev nD) :
    finalContents condOps preI bodyI postI 50 m c (Proc.devRef .tc main_arg0) = m ((c.tc : Thread nD τ).loc main_arg0)
    ∧ finalContents condOps preI bodyI postI 50 m c (Proc.devRef .tc main_arg1) = m ((c.tc : Thread nD τ).loc main_arg1)
    ∧ finalContents condOps preI bodyI postI 50 m c (Proc.devRef .tc main_arg2) = m ((c.tc : Thread nD τ).loc main_arg2) := by
  obtain ⟨h0, h1, h2⟩ := tail_keep (after condOps (atK m 50 c))
  exact ⟨h0.trans ((exit_keep m c (by decide +kernel)).trans (entry_keep _ (by decide +kernel))),
    h1.trans ((exit_keep m c (by decide +kernel)).trans (entry_keep _ (by decide +kernel))),
    h2.trans ((exit_keep m c (by decide +kernel)).trans (entry_keep _ (by decide +kernel)))⟩

/-- The reference's frame: every weakly fair run ends with the argument arrays as launched and every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h =>
    ⟨fun c => ⟨(h c main_arg0 rfl).trans (final_keep m c).1,
      (h c main_arg1 rfl).trans (final_keep m c).2.1,
      (h c main_arg2 rfl).trans (final_keep m c).2.2⟩,
      sem_eq_zero_of_no_sems rfl r.2⟩) (run_fold m ρ)

end Cert.ReferenceIdeal.Hand

end
-- ==== Proof.Spec.lean ====
/-
  The mathematics of one example, over natural-number indices and the extended reals: the kernel matrix of the scores, the
  two marginals, the row and column scaling iterated from all ones, the transport plan, the mutual-best assignment with its
  births and deaths, and the two ragged results read at a flat position.
-/
module

public import Idealize.ShloMosaic.Lib.Pointwise

@[expose] public section

noncomputable section

namespace Sinkhorn

open Idealize.ShloMosaic
open scoped Classical

/-- The quotient where the divisor is positive, zero elsewhere. -/
def quot (x y : EReal) : EReal := if 0 < y then Ideal.div x (if 0 < y then y else 1) else 0

/-- Zero has quotient zero. -/
theorem quot_zero (y : EReal) : quot 0 y = 0 := by
  unfold quot
  split_ifs with h
  · unfold Ideal.div
    rw [if_neg h.ne', zero_mul]
  · rfl

/-- The matrix of one example: the exponential of ten times the score inside, one on the border, zero outside. -/
def mat (A : ℕ → ℕ → EReal) (nd nt i j : ℕ) : EReal :=
  if i ≤ nt ∧ j ≤ nd then (if i < nt ∧ j < nd then Ideal.exp (Ideal.ofBits .f32 0x41200000#32 * A i j) else 1) else 0

/-- A marginal: one below the count, the count itself at it, zero beyond. -/
def marg (n i : ℕ) : EReal := if i < n then 1 else if i = n then (((n : ℤ) : ℝ) : EReal) else 0

/-- The row scaling that the column scaling `V` determines. -/
def rowScale (K : ℕ → ℕ → EReal) (r : ℕ → EReal) (V : ℕ → EReal) (i : ℕ) : EReal :=
  quot (r i) (∑ j : Fin 512, K i j * V j)

/-- The column scaling that the row scaling `U` determines. -/
def colScale (K : ℕ → ℕ → EReal) (c : ℕ → EReal) (U : ℕ → EReal) (j : ℕ) : EReal :=
  quot (c j) (∑ i : Fin 512, K i j * U i)

/-- One iteration: the row scaling, then the column scaling. -/
def step (K : ℕ → ℕ → EReal) (r c : ℕ → EReal) (p : (ℕ → EReal) × (ℕ → EReal)) : (ℕ → EReal) × (ℕ → EReal) :=
  (rowScale K r p.2, colScale K c (rowScale K r p.2))

/-- The pair of scalings after `n` iterations from all ones. -/
def scal (K : ℕ → ℕ → EReal) (r c : ℕ → EReal) (n : ℕ) : (ℕ → EReal) × (ℕ → EReal) :=
  (step K r c)^[n] (fun _ => 1, fun _ => 1)

theorem scal_zero (K : ℕ → ℕ → EReal) (r c : ℕ → EReal) : scal K r c 0 = (fun _ => 1, fun _ => 1) := rfl

theorem scal_succ (K : ℕ → ℕ → EReal) (r c : ℕ → EReal) (n : ℕ) : scal K r c (n + 1) = step K r c (scal K r c n) :=
  Function.iterate_succ_apply' _ _ _

/-- The transport plan of one example after fifty iterations. -/
def plan (A : ℕ → ℕ → EReal) (nd nt i j : ℕ) : EReal :=
  (scal (mat A nd nt) (marg nt) (marg nd) 50).1 i * mat A nd nt i j * (scal (mat A nd nt) (marg nt) (marg nd) 50).2 j

/-- The score that a maximum is taken over: the plan inside the core, the least value outside. -/
def neg (T : ℕ → ℕ → EReal) (nd nt i j : ℕ) : EReal :=
  if i < nt ∧ j < nd then T i j else Ideal.ofBits .f32 0xFF800000#32

/-- The largest score of row `i`. -/
def rowMax (T : ℕ → ℕ → EReal) (nd nt i : ℕ) : EReal :=
  Finset.fold max (Ideal.ofBits .f32 0xFF800000#32) (fun j : Fin 512 => neg T nd nt i j) Finset.univ

/-- The largest score of column `j`. -/
def colMax (T : ℕ → ℕ → EReal) (nd nt j : ℕ) : EReal :=
  Finset.fold max (Ideal.ofBits .f32 0xFF800000#32) (fun i : Fin 512 => neg T nd nt i j) Finset.univ

/-- Row `i` and column `j` are each other's best. -/
def mate (T : ℕ → ℕ → EReal) (nd nt i j : ℕ) : Prop :=
  ((i < nt ∧ j < nd) ∧ neg T nd nt i j = rowMax T nd nt i) ∧ neg T nd nt i j = colMax T nd nt j

/-- Row `i` is without a partner. -/
def death (T : ℕ → ℕ → EReal) (nd nt i : ℕ) : Prop := i < nt ∧ ¬ ∃ j : Fin 512, mate T nd nt i j

/-- Column `j` is without a partner. -/
def birth (T : ℕ → ℕ → EReal) (nd nt j : ℕ) : Prop := j < nd ∧ ¬ ∃ i : Fin 512, mate T nd nt i j

/-- The assignment with its border: a pair, a death in the last column, or a birth in the last row. -/
def full (T : ℕ → ℕ → EReal) (nd nt i j : ℕ) : Prop :=
  (mate T nd nt i j ∨ (j = nd ∧ death T nd nt i)) ∨ (i = nt ∧ birth T nd nt j)

/-- The first result at flat position `k`: the plan in row-major order of its ragged shape, zero past its end. -/
def flatPlan (T : ℕ → ℕ → EReal) (nd nt k : ℕ) : EReal :=
  if k < (nt + 1) * (nd + 1) then T (k / (nd + 1)) (k % (nd + 1)) else 0

/-- The second result at flat position `k`: the bit of the assignment there, zero past its end. -/
def flatAssign (T : ℕ → ℕ → EReal) (nd nt k : ℕ) : BitVec 1 :=
  if k < (nt + 1) * (nd + 1) then BitVec.ofBool (decide (full T nd nt (k / (nd + 1)) (k % (nd + 1)))) else 0#1

end Sinkhorn

end
-- ==== Proof.Words.lean ====
module

public import Idealize.ShloMosaic.Lib.Routing.Words
public import Idealize.ShloMosaic.Lib.Routing.BitFacts
public import Idealize.ShloMosaic.Lib.WordCmp
public import Idealize.ShloMosaic.Lib.Pointwise

@[expose] public section

namespace Sinkhorn

open Idealize.ShloMosaic
open Idealize.ShloMosaic.Routing (divsi_word remsi_word msb_ofNat32 ofNat32_ne_zero)

/-- The rounded-down quotient of two words, as array code spells it, is the quotient of the numbers. -/
theorem floor_div_word (k n : ℕ) (hk : k < 2 ^ 31) (h0 : 0 < n) (hn : n < 2 ^ 31) :
    Scalar.select
      (IntOp.andi
        (IntOp.cmpi .ne
          (if BitVec.ofNat 32 k = 0 then (0 : BitVec 32) else if (BitVec.ofNat 32 k).msb = true then -1 else 1)
          (if BitVec.ofNat 32 n = 0 then (0 : BitVec 32) else if (BitVec.ofNat 32 n).msb = true then -1 else 1))
        (IntOp.cmpi .ne (IntOp.remsi .host (BitVec.ofNat 32 k) (BitVec.ofNat 32 n)) 0#32))
      (IntOp.subi (IntOp.divsi .host (BitVec.ofNat 32 k) (BitVec.ofNat 32 n)) 1#32)
      (IntOp.divsi .host (BitVec.ofNat 32 k) (BitVec.ofNat 32 n)) = BitVec.ofNat 32 (k / n) := by
  rw [divsi_word _ hk h0 hn, remsi_word _ hk h0 hn, msb_ofNat32 hk, msb_ofNat32 hn, if_neg (ofNat32_ne_zero h0 (by omega))]
  rcases Nat.eq_zero_or_pos k with rfl | hp
  · rw [Nat.zero_mod]
    rfl
  · rw [if_neg (ofNat32_ne_zero hp (by omega))]
    generalize IntOp.cmpi .ne (BitVec.ofNat 32 (k % n)) 0#32 = x
    simp only [Bool.false_eq_true, if_false]
    rw [show IntOp.cmpi .ne (1 : BitVec 32) 1 = 0#1 from by decide, show IntOp.andi 0#1 x = 0#1 from by revert x; decide]
    rfl

/-- The remainder of two words with the divisor's sign, as array code spells it, is the remainder of the numbers. -/
theorem mod_word (k n : ℕ) (hk : k < 2 ^ 31) (h0 : 0 < n) (hn : n < 2 ^ 31) :
    Scalar.select
      (IntOp.andi
        (IntOp.cmpi .ne (IntOp.cmpi .slt (IntOp.remsi .host (BitVec.ofNat 32 k) (BitVec.ofNat 32 n)) 0#32)
          (IntOp.cmpi .slt (BitVec.ofNat 32 n) 0#32))
        (IntOp.cmpi .ne (IntOp.remsi .host (BitVec.ofNat 32 k) (BitVec.ofNat 32 n)) 0#32))
      (IntOp.addi (IntOp.remsi .host (BitVec.ofNat 32 k) (BitVec.ofNat 32 n)) (BitVec.ofNat 32 n))
      (IntOp.remsi .host (BitVec.ofNat 32 k) (BitVec.ofNat 32 n)) = BitVec.ofNat 32 (k % n) := by
  have hm : k % n < 2 ^ 31 := (Nat.mod_lt k h0).trans hn
  rw [remsi_word _ hk h0 hn, show IntOp.cmpi .slt (BitVec.ofNat 32 (k % n)) 0#32 = 0#1 from ?_,
    show IntOp.cmpi .slt (BitVec.ofNat 32 n) 0#32 = 0#1 from ?_]
  · rw [show IntOp.cmpi .ne 0#1 0#1 = 0#1 from by decide]
    generalize IntOp.cmpi .ne (BitVec.ofNat 32 (k % n)) 0#32 = x
    rw [show IntOp.andi 0#1 x = 0#1 from by revert x; decide]
    rfl
  · simp (disch := omega) only [WordCmp.cmpi_slt_ofNat (w := 32) (b := 0)]
    rfl
  · simp (disch := omega) only [WordCmp.cmpi_slt_ofNat (w := 32) (b := 0)]
    rfl

/-- An index that is not negative is left as it is by the rule that counts negative ones from the end. -/
theorem wrap_word (a n : ℕ) (ha : a < 2 ^ 31) (x : BitVec 32) :
    Scalar.select (IntOp.cmpi .slt (BitVec.ofNat 32 a) 0#32) x (BitVec.ofNat 32 a) = BitVec.ofNat 32 a := by
  simp (disch := omega) only [WordCmp.cmpi_slt_ofNat (w := 32) (b := 0)]
  rfl

/-- The lesser of two words of numbers below half the range. -/
theorem min_word (a b : ℕ) (ha : a < 2 ^ 31) (hb : b < 2 ^ 31) :
    IntOp.minsi (BitVec.ofNat 32 a) (BitVec.ofNat 32 b) = BitVec.ofNat 32 (min a b) := by
  unfold IntOp.minsi
  have h := WordCmp.cmpi_slt_ofNat (w := 32) ha hb
  have h' : (BitVec.ofNat 32 a).slt (BitVec.ofNat 32 b) = decide (a < b) := by
    have : BitVec.ofBool ((BitVec.ofNat 32 a).slt (BitVec.ofNat 32 b)) = BitVec.ofBool (decide (a < b)) := h
    revert this
    cases (BitVec.ofNat 32 a).slt (BitVec.ofNat 32 b) <;> cases decide (a < b) <;> decide
  rw [h']
  by_cases e : a < b
  · rw [if_pos (decide_eq_true e), Nat.min_eq_left e.le]
  · rw [if_neg (by simpa using e), Nat.min_eq_right (by omega)]

/-- Reading a stack of square tables at a row and a column number for every position: where the numbers lie in the table, the
entry they name. -/
theorem gather_pair {α : Type} {N M : ℕ}
    (wf : GatherDims.WF ⟨3, ![16, N, N]⟩ ⟨3, ![16, M, 2]⟩ ⟨2, ![16, M]⟩ [] [1, 2] [0] [1, 2] [0] 2 ![1, 1, 1])
    (x : (⟨3, ![16, N, N]⟩ : Shape).Idx → α) (idx : IVec ⟨3, ![16, M, 2]⟩ 32) (b : Fin 16) (k : Fin M) (i j : ℕ)
    (hi : i < N) (hj : j < N) (hN : N < 2 ^ 31)
    (ei : idx (ix3 b k (0 : Fin 2)) = BitVec.ofNat 32 i) (ej : idx (ix3 b k (1 : Fin 2)) = BitVec.ofNat 32 j) :
    Host.gather (GatherDims.mk [] [1, 2] [0] [0] [1, 2] 2 ![1, 1, 1] wf) x idx (ix2 b k)
      = x (ix3 b ⟨i, hi⟩ ⟨j, hj⟩) := by
  unfold Host.gather
  refine congrArg x (funext fun a => Fin.ext ?_)
  generalize hd : (GatherDims.mk (s := ⟨3, ![16, N, N]⟩) (si := ⟨3, ![16, M, 2]⟩) (t := ⟨2, ![16, M]⟩) _ _ _ _ _ _ _ wf) = d
  have s0 : ∀ c : Fin d.startIndexMap.length, c.val = 0 → d.siIdx (ix2 b k) c = ix3 b k (0 : Fin 2) := by
    subst hd
    intro c hc
    funext a'
    match a' with
    | ⟨0, _⟩ => exact Fin.ext rfl
    | ⟨1, _⟩ => exact Fin.ext rfl
    | ⟨2, _⟩ => exact Fin.ext hc
  have s1 : ∀ c : Fin d.startIndexMap.length, c.val = 1 → d.siIdx (ix2 b k) c = ix3 b k (1 : Fin 2) := by
    subst hd
    intro c hc
    funext a'
    match a' with
    | ⟨0, _⟩ => exact Fin.ext rfl
    | ⟨1, _⟩ => exact Fin.ext rfl
    | ⟨2, _⟩ => exact Fin.ext hc
  show d.start (ix2 b k) idx a + d.batchCoord (ix2 b k) a + d.offCoord (ix2 b k) a = _
  match a with
  | ⟨0, _⟩ =>
    subst hd
    show 0 + b.val + 0 = b.val
    omega
  | ⟨1, h1⟩ =>
    have hs : d.start (ix2 b k) idx ⟨1, h1⟩ = i := by
      subst hd
      show min (idx _).toInt.toNat (N - 1) = i
      rw [s0 _ rfl, ei, WordCmp.toInt_ofNat_of_lt (w := 32) (show i < 2 ^ 31 by omega), Int.toNat_natCast]
      omega
    rw [hs]
    subst hd
    rfl
  | ⟨2, h2⟩ =>
    have hs : d.start (ix2 b k) idx ⟨2, h2⟩ = j := by
      subst hd
      show min (idx _).toInt.toNat (N - 1) = j
      rw [s1 _ rfl, ej, WordCmp.toInt_ofNat_of_lt (w := 32) (show j < 2 ^ 31 by omega), Int.toNat_natCast]
      omega
    rw [hs]
    subst hd
    rfl

end Sinkhorn

end
-- ==== Proof.RefEntry.lean ====
module

public import proofs.«01_k».proof.Proof.RefFrame
public import proofs.«01_k».proof.Proof.Spec
public import proofs.«01_k».proof.Proof.Words
public import Idealize.ShloMosaic.Lib.StableHlo.ReadAt
public import Idealize.ShloMosaic.Lib.Pointwise
public import Idealize.ShloMosaic.Lib.WordCmp

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

variable (W : Valuation τ sig (Elt Ideal)) (nd nt : ℕ → ℕ) (A : ℕ → ℕ → ℕ → EReal)
  (hd : ∀ b, nd b < 512) (ht : ∀ b, nt b < 512)
  (hnd : ∀ b : Fin 16, W main_arg1 (ix1 b) = BitVec.ofNat 32 (nd b)) (hnt : ∀ b : Fin 16, W main_arg2 (ix1 b) = BitVec.ofNat 32 (nt b))
  (hA : ∀ (b : Fin 16) (i j : Fin 512), W main_arg0 (ix3 b i j) = A b i j)

include hd ht hnd hnt hA in
/-- At the loop's entry the matrix holds the exponentials of the scores with their border. -/
theorem v35_at (b : Fin 16) (i j : Fin 513) :
    afterL preI W main_v35 (ix3 b i j) = Sinkhorn.mat (A b) (nd b) (nt b) i j := by
  simp only [preI, afterL_cons, afterL_nil]
  after_reads_at
  have h1 := hd b
  have h2 := ht b
  simp only [id_eq]
  pointwise
  rw [hnd, hnt]
  simp (disch := omega) only [hlo_ix]
  unfold Sinkhorn.mat
  by_cases h : (i : ℕ) ≤ nt b ∧ (j : ℕ) ≤ nd b
  · rw [if_pos h, if_pos h]
    by_cases h' : (i : ℕ) < nt b ∧ (j : ℕ) < nd b
    · rw [if_pos h', if_pos h', dif_pos ⟨by omega, by omega⟩, hA]
    · rw [if_neg h', if_neg h']
      show ((Real.exp 0 : ℝ) : EReal) = 1
      rw [Real.exp_zero]
      rfl
  · rw [if_neg h, if_neg h]

include hd ht hnd hnt hA in
/-- At the loop's entry the carried matrix is that matrix. -/
theorem mat_at (b : Fin 16) (i j : Fin 513) :
    afterL preI W main_v68_0 (ix3 b i j) = Sinkhorn.mat (A b) (nd b) (nt b) i j := by
  have h := v35_at W nd nt A hd ht hnd hnt hA b i j
  simp only [preI, afterL_cons, afterL_nil] at h ⊢
  generalize after hostOps0_13 _ = X at h ⊢
  refine Eq.trans ?_ h
  after_reads_at
  rfl

/-- A count as a float, chosen along a marginal. -/
theorem marg_word (n : ℕ) (hn : n < 512) (i : ℕ) :
    (if i < n then (1 : EReal) else if i = n then FloatOps.sitofp (F := Ideal) .f32 (BitVec.ofNat 32 n) else 0) = Sinkhorn.marg n i := by
  show (if i < n then (1 : EReal) else if i = n then (((BitVec.ofNat 32 n).toInt : ℝ) : EReal) else 0) = _
  rw [WordCmp.toInt_ofNat_of_lt (by omega)]
  rfl

include ht hnt in
/-- At the loop's entry the carried row marginal. -/
theorem row_marg_at (b : Fin 16) (i : Fin 513) :
    afterL preI W main_v68_1 (ix2 b i) = Sinkhorn.marg (nt b) i := by
  simp only [preI, afterL_cons, afterL_nil]
  after_reads_at
  have h2 := ht b
  simp only [id_eq]
  pointwise
  rw [hnt]
  simp (disch := omega) only [hlo_ix]
  exact marg_word _ (by omega) _

include hd hnd in
/-- At the loop's entry the carried column marginal. -/
theorem col_marg_at (b : Fin 16) (j : Fin 513) :
    afterL preI W main_v68_2 (ix2 b j) = Sinkhorn.marg (nd b) j := by
  simp only [preI, afterL_cons, afterL_nil]
  after_reads_at
  have h2 := hd b
  simp only [id_eq]
  pointwise
  rw [hnd]
  simp (disch := omega) only [hlo_ix]
  exact marg_word _ (by omega) _

/-- At the loop's entry the column scaling is all ones. -/
theorem ones_at (b : Fin 16) (j : Fin 513) : afterL preI W main_v68_5 (ix2 b j) = (1 : EReal) := by
  simp only [preI, afterL_cons, afterL_nil]
  after_reads_at
  rw [id_eq]
  pointwise

/-- At the loop's entry the row scaling is all ones. -/
theorem ones_row_at (b : Fin 16) (j : Fin 513) : afterL preI W main_v68_4 (ix2 b j) = (1 : EReal) := by
  simp only [preI, afterL_cons, afterL_nil]
  after_reads_at
  rw [id_eq]
  pointwise

/-- The column of row numbers. -/
theorem v1_at (i : Fin 513) : afterL preI W main_v1 (ix2 i 0) = BitVec.ofNat 32 i := by
  simp only [preI, afterL_cons, afterL_nil]
  after_reads_at

/-- The row of column numbers. -/
theorem v3_at (j : Fin 513) : afterL preI W main_v3 (ix2 0 j) = BitVec.ofNat 32 j := by
  simp only [preI, afterL_cons, afterL_nil]
  after_reads_at

end Cert.ReferenceIdeal.Hand

end
-- ==== Proof.RefLoop.lean ====
module

public import proofs.«01_k».proof.Proof.RefEntry
public import proofs.«01_k».proof.Proof.Spec
public import proofs.«01_k».proof.Proof.Words
public import Idealize.ShloMosaic.Lib.StableHlo.ReadAt
public import Idealize.ShloMosaic.Lib.Pointwise
public import Idealize.ShloMosaic.Lib.WordCmp

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

variable (V : Valuation τ sig (Elt Ideal)) (nd nt : ℕ → ℕ) (A : ℕ → ℕ → ℕ → EReal)
  (hd : ∀ b, nd b < 512) (ht : ∀ b, nt b < 512)

/-- The matrix is zero past the detections. -/
theorem mat_right (B : ℕ → ℕ → EReal) (n t i : ℕ) (hn : n < 512) : Sinkhorn.mat B n t i 512 = 0 :=
  if_neg fun h => absurd h.2 (by omega)

/-- The matrix is zero past the tracklets. -/
theorem mat_below (B : ℕ → ℕ → EReal) (n t j : ℕ) (ht : t < 512) : Sinkhorn.mat B n t 512 j = 0 :=
  if_neg fun h => absurd h.1 (by omega)

/-- What the loop carries after `k` trips: the matrix, the two marginals and the `k`-th pair of scalings. -/
structure Carries (k : ℕ) : Prop where
  mat : ∀ (b : Fin 16) (i j : Fin 513), V main_v68_0 (ix3 b i j) = Sinkhorn.mat (A b) (nd b) (nt b) i j
  row : ∀ (b : Fin 16) (i : Fin 513), V main_v68_1 (ix2 b i) = Sinkhorn.marg (nt b) i
  col : ∀ (b : Fin 16) (j : Fin 513), V main_v68_2 (ix2 b j) = Sinkhorn.marg (nd b) j
  u : ∀ (b : Fin 16) (i : Fin 513), V main_v68_4 (ix2 b i)
    = (Sinkhorn.scal (Sinkhorn.mat (A b) (nd b) (nt b)) (Sinkhorn.marg (nt b)) (Sinkhorn.marg (nd b)) k).1 i
  v : ∀ (b : Fin 16) (j : Fin 513), V main_v68_5 (ix2 b j)
    = (Sinkhorn.scal (Sinkhorn.mat (A b) (nd b) (nt b)) (Sinkhorn.marg (nt b)) (Sinkhorn.marg (nd b)) k).2 j

variable {V nd nt A}

include hd in
/-- One trip's row scaling is the specification's. -/
theorem row_step {k : ℕ} (h : Carries V nd nt A k) (b : Fin 16) (i : Fin 513) :
    res_main_while0b_v201 V (ix2 b i)
      = (Sinkhorn.scal (Sinkhorn.mat (A b) (nd b) (nt b)) (Sinkhorn.marg (nt b)) (Sinkhorn.marg (nd b)) (k + 1)).1 i := by
  unfold res_main_while0b_v201 res_main_while0b_v194
  pointwise
  simp only [h.mat, h.row, h.v, Fin.sum_univ_castSucc (n := 512)]
  simp only [Fin.val_castSucc, Fin.val_last, mat_right _ _ _ _ (hd b), zero_mul, add_zero]
  rw [Sinkhorn.scal_succ]
  unfold Sinkhorn.step Sinkhorn.rowScale Sinkhorn.quot
  simp only [id_eq]
  pointwise

include hd ht in
/-- One trip's column scaling is the specification's. -/
theorem col_step {k : ℕ} (h : Carries V nd nt A k) (b : Fin 16) (j : Fin 513) :
    step_main_v68_5 V (ix2 b j)
      = (Sinkhorn.scal (Sinkhorn.mat (A b) (nd b) (nt b)) (Sinkhorn.marg (nt b)) (Sinkhorn.marg (nd b)) (k + 1)).2 j := by
  unfold step_main_v68_5 res_main_while0b_v203
  rw [id_eq]
  pointwise
  simp only [h.mat, h.col, row_step hd h, Fin.sum_univ_castSucc (n := 512)]
  simp only [Fin.val_castSucc, Fin.val_last, mat_below _ _ _ _ (ht b), zero_mul, add_zero]
  rw [Sinkhorn.scal_succ]
  unfold Sinkhorn.step Sinkhorn.colScale Sinkhorn.quot
  simp only [id_eq]
  pointwise

include hd ht in
/-- One trip carries the specification one iteration on. -/
theorem carries_step {k : ℕ} (h : Carries V nd nt A k) : Carries (STEP V) nd nt A (k + 1) where
  mat b i j := (congrFun (STEP_main_v68_0 V) _).trans (h.mat b i j)
  row b i := (congrFun (STEP_main_v68_1 V) _).trans (h.row b i)
  col b j := (congrFun (STEP_main_v68_2 V) _).trans (h.col b j)
  u b i := (congrFun (STEP_main_v68_4 V) _).trans (row_step hd h b i)
  v b j := (congrFun (STEP_main_v68_5 V) _).trans (col_step hd ht h b j)

include hd ht in
/-- Any number of trips from all ones carries that many iterations. -/
theorem carries_iterate (h : Carries V nd nt A 0) : ∀ k, Carries (STEP^[k] V) nd nt A k
  | 0 => h
  | k + 1 => by
    rw [Function.iterate_succ_apply']
    exact carries_step hd ht (carries_iterate h k)

/-- What is carried depends on the carried buffers only. -/
theorem Carries.congr {V' : Valuation τ sig (Elt Ideal)} {k : ℕ} (h : Carries V nd nt A k) (e : Agree V' V) : Carries V' nd nt A k where
  mat b i j := (congrFun (e main_v68_0 (by decide)) _).trans (h.mat b i j)
  row b i := (congrFun (e main_v68_1 (by decide)) _).trans (h.row b i)
  col b j := (congrFun (e main_v68_2 (by decide)) _).trans (h.col b j)
  u b i := (congrFun (e main_v68_4 (by decide)) _).trans (h.u b i)
  v b j := (congrFun (e main_v68_5 (by decide)) _).trans (h.v b j)

/-- At the loop's entry the carried buffers hold the matrix, the marginals and all ones. -/
theorem carries_entry (hd : ∀ b, nd b < 512) (ht : ∀ b, nt b < 512) (W : Valuation τ sig (Elt Ideal)) (hnd : ∀ b : Fin 16, W main_arg1 (ix1 b) = BitVec.ofNat 32 (nd b))
    (hnt : ∀ b : Fin 16, W main_arg2 (ix1 b) = BitVec.ofNat 32 (nt b))
    (hA : ∀ (b : Fin 16) (i j : Fin 512), W main_arg0 (ix3 b i j) = A b i j) : Carries (afterL preI W) nd nt A 0 where
  mat := mat_at W nd nt A hd ht hnd hnt hA
  row := row_marg_at W nt ht hnt
  col := col_marg_at W nd hd hnd
  u := ones_row_at W
  v := ones_at W

/-- After the loop the carried buffers hold the matrix and the fiftieth pair of scalings. -/
theorem carries_exit (m : (ℓ : Loc nD τ sig) → Buf (Elt Ideal) ℓ) (c : Dev nD)
    (hd : ∀ b, nd b < 512) (ht : ∀ b, nt b < 512)
    (hnd : ∀ b : Fin 16, m ((c : Thread nD τ).loc main_arg1) (ix1 b) = BitVec.ofNat 32 (nd b))
    (hnt : ∀ b : Fin 16, m ((c : Thread nD τ).loc main_arg2) (ix1 b) = BitVec.ofNat 32 (nt b))
    (hA : ∀ (b : Fin 16) (i j : Fin 512), m ((c : Thread nD τ).loc main_arg0) (ix3 b i j) = A b i j) :
    Carries (after condOps (atK m 50 c)) nd nt A 50 := by
  have h := carries_iterate hd ht (carries_entry hd ht (launchContents m c) hnd hnt hA) 50
  have e := atK_agree m c 50
  generalize atK m 50 c = X at e ⊢
  refine h.congr fun j hj => Eq.trans ?_ (e j hj)
  refine after_of_writes_sub condOps _ condOps_writes ?_
  revert j
  decide

end Cert.ReferenceIdeal.Hand

end
-- ==== Proof.RefPlan.lean ====
module

public import proofs.«01_k».proof.Proof.RefFrame
public import proofs.«01_k».proof.Proof.Spec
public import proofs.«01_k».proof.Proof.Words
public import Idealize.ShloMosaic.Lib.StableHlo.ReadAt
public import Idealize.ShloMosaic.Lib.Pointwise
public import Idealize.ShloMosaic.Lib.WordCmp
public import Idealize.ShloMosaic.Lib.Routing.OpsOrder

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

variable (W : Valuation τ sig (Elt Ideal)) (nd nt : ℕ → ℕ) (T : ℕ → ℕ → ℕ → EReal)

/-- The product of a row scaling, a matrix entry and a column scaling. -/
def prod3 (u x v : EReal) : EReal := u * x * v

/-- The plan: the row scaling times the matrix times the column scaling. -/
theorem v74_at (b : Fin 16) (i j : Fin 513) :
    after hostOps0_15 W main_v74 (ix3 b i j)
      = prod3 (W main_v68_4 (ix2 b i)) (W main_v35 (ix3 b i j)) (W main_v68_5 (ix2 b j)) := by
  after_reads_at
  rfl

/-- The plan's inner part: the same product, without the border. -/
theorem v75_at (b : Fin 16) (i j : Fin 512) :
    after hostOps0_15 W main_v75 (ix3 b i j)
      = prod3 (W main_v68_4 (ix2 b i.castSucc)) (W main_v35 (ix3 b i.castSucc j.castSucc)) (W main_v68_5 (ix2 b j.castSucc)) := by
  after_reads_at
  rfl

/-- The mask of the inner part. -/
theorem v92_at (b : Fin 16) (i j : Fin 512) (n t : ℕ) (hn : n < 512) (ht : t < 512)
    (h1 : W main_arg1 (ix1 b) = BitVec.ofNat 32 n) (h2 : W main_arg2 (ix1 b) = BitVec.ofNat 32 t) :
    after hostOps0_15 W main_v92 (ix3 b i j) = BitVec.ofBool (decide ((i : ℕ) < t ∧ (j : ℕ) < n)) := by
  after_reads_at
  rw [h1, h2]
  simp (disch := omega) only [hlo_ix]
  rw [Bool.decide_and]

/-- The value that stands outside the inner part. -/
theorem cst_9_at : after hostOps0_15 W main_cst_9 ix0 = Ideal.ofBits .f32 0xFF800000#32 := by
  after_reads_at

/-- The scores that the maxima are taken over. -/
theorem v93_at (b : Fin 16) (i j : Fin 512) (n t : ℕ) (T : ℕ → ℕ → EReal)
    (h : W main_v92 (ix3 b i j) = BitVec.ofBool (decide ((i : ℕ) < t ∧ (j : ℕ) < n))) (h' : W main_v75 (ix3 b i j) = T i j)
    (h0 : W main_cst_9 ix0 = Ideal.ofBits .f32 0xFF800000#32) :
    after hostOps0_16 W main_v93 (ix3 b i j) = Sinkhorn.neg T n t i j := by
  after_reads_at
  rw [h, h', id_eq, h0, WordCmp.select_ofBool]
  simp only [decide_eq_true_eq]
  rfl

open scoped Classical in
/-- The mutual-best pairs. -/
theorem v103_at (b : Fin 16) (i j : Fin 512) (n t : ℕ) (T : ℕ → ℕ → EReal)
    (h : ∀ i j : Fin 512, W main_v92 (ix3 b i j) = BitVec.ofBool (decide ((i : ℕ) < t ∧ (j : ℕ) < n)))
    (h' : ∀ i j : Fin 512, W main_v93 (ix3 b i j) = Sinkhorn.neg T n t i j) :
    after hostOps0_17 W main_v103 (ix3 b i j) = BitVec.ofBool (decide (Sinkhorn.mate T n t i j)) := by
  after_reads_at
  simp only [h, h']
  simp only [WordCmp.andi_ofBool]
  refine congrArg _ (Bool.eq_iff_iff.2 ?_)
  simp only [Bool.and_eq_true, decide_eq_true_eq]
  rfl

/-- Whether some bit of a family is set, as a bit. -/
theorem any_bit (p : Fin 512 → BitVec 1) (q : Fin 512 → Prop) [Decidable (∃ x, q x)] (h : ∀ x, p x = 1#1 ↔ q x) :
    Finset.fold IntOp.ori (0#1) p Finset.univ = BitVec.ofBool (decide (∃ x, q x)) := by
  have e := Routing.fold_ori Finset.univ p
  simp only [Finset.mem_univ, true_and, h] at e
  by_cases hq : ∃ x, q x
  · rw [e.2 hq, decide_eq_true hq]; rfl
  · rw [decide_eq_false hq]
    rcases BitVec.eq_zero_or_eq_one (Finset.fold IntOp.ori (0#1) p Finset.univ) with g | g
    · exact g
    · exact absurd (e.1 g) hq

theorem not_bit (b : Bool) : ~~~ (BitVec.ofBool b) = BitVec.ofBool (!b) := by cases b <;> rfl

open scoped Classical in
/-- The rows without a partner. -/
theorem v112_at (b : Fin 16) (i : Fin 512) (n t : ℕ) (ht : t < 512) (T : ℕ → ℕ → EReal)
    (h2 : W main_arg2 (ix1 b) = BitVec.ofNat 32 t)
    (h : ∀ i j : Fin 512, W main_v92 (ix3 b i j) = BitVec.ofBool (decide ((i : ℕ) < t ∧ (j : ℕ) < n)))
    (h' : ∀ i j : Fin 512, W main_v93 (ix3 b i j) = Sinkhorn.neg T n t i j) :
    after hostOps0_17 W main_v112 (ix2 b i) = BitVec.ofBool (decide (Sinkhorn.death T n t i)) := by
  after_reads_at
  rw [any_bit _ (fun j => Sinkhorn.mate T n t i j) ?_, not_bit, h2]
  · simp (disch := omega) only [hlo_ix]
    refine congrArg _ (Bool.eq_iff_iff.2 ?_)
    simp only [Bool.and_eq_true, decide_eq_true_eq, Bool.not_eq_true', decide_eq_false_iff_not]
    rfl
  · intro j
    simp only [h, h', WordCmp.andi_ofBool, WordCmp.ofBool_eq_one_iff, Bool.and_eq_true, decide_eq_true_eq]
    rfl

open scoped Classical in
/-- The columns without a partner. -/
theorem v121_at (b : Fin 16) (j : Fin 512) (n t : ℕ) (hn : n < 512) (T : ℕ → ℕ → EReal)
    (h1 : W main_arg1 (ix1 b) = BitVec.ofNat 32 n)
    (h : ∀ i j : Fin 512, W main_v92 (ix3 b i j) = BitVec.ofBool (decide ((i : ℕ) < t ∧ (j : ℕ) < n)))
    (h' : ∀ i j : Fin 512, W main_v93 (ix3 b i j) = Sinkhorn.neg T n t i j) :
    after hostOps0_17 W main_v121 (ix2 b j) = BitVec.ofBool (decide (Sinkhorn.birth T n t j)) := by
  after_reads_at
  rw [any_bit _ (fun i => Sinkhorn.mate T n t i j) ?_, not_bit, h1]
  · simp (disch := omega) only [hlo_ix]
    refine congrArg _ (Bool.eq_iff_iff.2 ?_)
    simp only [Bool.and_eq_true, decide_eq_true_eq, Bool.not_eq_true', decide_eq_false_iff_not]
    rfl
  · intro i
    simp only [h, h', WordCmp.andi_ofBool, WordCmp.ofBool_eq_one_iff, Bool.and_eq_true, decide_eq_true_eq]
    rfl

open scoped Classical in
/-- The assignment with its border, at a position inside the table. -/
theorem v144_at (b : Fin 16) (i j : Fin 512) (n t : ℕ) (hn : n < 512) (ht : t < 512) (T : ℕ → ℕ → EReal)
    (h1 : W main_arg1 (ix1 b) = BitVec.ofNat 32 n) (h2 : W main_arg2 (ix1 b) = BitVec.ofNat 32 t)
    (hi : ∀ i : Fin 513, W main_v1 (ix2 i 0) = BitVec.ofNat 32 i) (hj : ∀ j : Fin 513, W main_v3 (ix2 0 j) = BitVec.ofNat 32 j)
    (h103 : ∀ i j : Fin 512, W main_v103 (ix3 b i j) = BitVec.ofBool (decide (Sinkhorn.mate T n t i j)))
    (h112 : ∀ i : Fin 512, W main_v112 (ix2 b i) = BitVec.ofBool (decide (Sinkhorn.death T n t i)))
    (h121 : ∀ j : Fin 512, W main_v121 (ix2 b j) = BitVec.ofBool (decide (Sinkhorn.birth T n t j))) :
    afterL [hostOps0_18, hostOps0_19, hostOps0_20, hostOps0_21, hostOps0_22, hostOps0_23] W main_v144 (ix3 b i.castSucc j.castSucc)
      = BitVec.ofBool (decide (Sinkhorn.full T n t i j)) := by
  simp only [afterL_cons, afterL_nil]
  after_reads_at
  have ei : ((i.castSucc : Fin 513) : ℕ) < 512 := i.isLt
  have ej : ((j.castSucc : Fin 513) : ℕ) < 512 := j.isLt
  rw [dif_pos ⟨ei, ej⟩, dif_pos ei, dif_pos ej, hi, hj, h1, h2]
  simp only [Fin.val_castSucc, Fin.eta, h103, h112, h121]
  simp (disch := omega) only [hlo_ix]
  refine congrArg _ (Bool.eq_iff_iff.2 ?_)
  simp only [Bool.or_eq_true, Bool.and_eq_true, decide_eq_true_eq]
  rfl

end Cert.ReferenceIdeal.Hand

end
-- ==== Proof.RefTail.lean ====
module

public import proofs.«01_k».proof.Proof.RefFrame
public import proofs.«01_k».proof.Proof.Spec
public import proofs.«01_k».proof.Proof.Words
public import Idealize.ShloMosaic.Lib.StableHlo.ReadAt
public import Idealize.ShloMosaic.Lib.Pointwise
public import Idealize.ShloMosaic.Lib.WordCmp

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

variable (W : Valuation τ sig (Elt Ideal))

/-- The flat position. -/
theorem v145_at (k : Fin 263169) : after hostOps0_23 W main_v145 (ix1 k) = BitVec.ofNat 32 k := by
  after_reads_at

/-- The number of entries of example `b`'s ragged shape. -/
theorem v150_at (b : Fin 16) (n t : ℕ) (h1 : W main_arg1 (ix1 b) = BitVec.ofNat 32 n) (h2 : W main_arg2 (ix1 b) = BitVec.ofNat 32 t) :
    after hostOps0_23 W main_v150 (ix1 b) = BitVec.ofNat 32 ((t + 1) * (n + 1)) := by
  after_reads_at
  rw [h1, h2, show IntOp.addi (BitVec.ofNat 32 t) 1#32 = BitVec.ofNat 32 (t + 1) from WordCmp.addi_ofNat t 1,
    show IntOp.addi (BitVec.ofNat 32 n) 1#32 = BitVec.ofNat 32 (n + 1) from WordCmp.addi_ofNat n 1, WordCmp.muli_ofNat]

/-- The row length of example `b`. -/
theorem v152_at (b : Fin 16) (n : ℕ) (h1 : W main_arg1 (ix1 b) = BitVec.ofNat 32 n) :
    after hostOps0_23 W main_v152 (ix1 b) = BitVec.ofNat 32 (n + 1) := by
  after_reads_at
  exact (congrArg (fun x => IntOp.addi x 1#32) h1).trans (WordCmp.addi_ofNat n 1)

/-- The row of a flat position. -/
theorem v153_at (b : Fin 16) (k : Fin 263169) (n : ℕ) (hn : n < 512) (h2 : W main_v152 (ix1 b) = BitVec.ofNat 32 (n + 1))
    (h3 : W main_v145 (ix1 k) = BitVec.ofNat 32 k) :
    after hostOps0_24 W main_v153 (ix2 b k) = BitVec.ofNat 32 (k / (n + 1)) := by
  after_reads_at
  rw [h2, h3]
  exact Sinkhorn.floor_div_word k (n + 1) (by omega) (by omega) (by omega)

/-- The row of a flat position, held inside the table. -/
theorem v155_at (b : Fin 16) (k : Fin 263169) (i : ℕ) (hi : i < 2 ^ 31) (h4 : W main_v153 (ix2 b k) = BitVec.ofNat 32 i) :
    after hostOps0_25 W main_v155 (ix2 b k) = BitVec.ofNat 32 (min i 512) := by
  after_reads_at
  rw [h4]
  exact Sinkhorn.min_word i 512 hi (by omega)

/-- The row length of example `b`, computed once more. -/
theorem v157_at (b : Fin 16) (n : ℕ) (h1 : W main_arg1 (ix1 b) = BitVec.ofNat 32 n) :
    after hostOps0_25 W main_v157 (ix1 b) = BitVec.ofNat 32 (n + 1) := by
  after_reads_at
  exact (congrArg (fun x => IntOp.addi x 1#32) h1).trans (WordCmp.addi_ofNat n 1)

/-- A row length is not zero, so the guard against a zero divisor leaves it. -/
theorem guard_word (n : ℕ) (hn : n < 512) (x : BitVec 32) :
    Scalar.select (IntOp.cmpi .eq (BitVec.ofNat 32 (n + 1)) 0#32) x (BitVec.ofNat 32 (n + 1)) = BitVec.ofNat 32 (n + 1) := by
  simp (disch := omega) only [WordCmp.cmpi_eq_ofNat (w := 32) (b := 0)]
  rw [decide_eq_false (by omega)]
  rfl

/-- The column of a flat position. -/
theorem v158_at (b : Fin 16) (k : Fin 263169) (n : ℕ) (hn : n < 512) (h2 : W main_v157 (ix1 b) = BitVec.ofNat 32 (n + 1))
    (h3 : W main_v145 (ix1 k) = BitVec.ofNat 32 k) :
    after hostOps0_26 W main_v158 (ix2 b k) = BitVec.ofNat 32 (k % (n + 1)) := by
  after_reads_at
  rw [h2, h3, guard_word n hn]
  exact Sinkhorn.mod_word k (n + 1) (by omega) (by omega) (by omega)

/-- Whether a flat position lies inside the ragged shape. -/
theorem v163_at (b : Fin 16) (k : Fin 263169) (p : ℕ) (hp : p < 2 ^ 31) (h2 : W main_v150 (ix1 b) = BitVec.ofNat 32 p)
    (h3 : W main_v145 (ix1 k) = BitVec.ofNat 32 k) :
    after hostOps0_27 W main_v163 (ix2 b k) = BitVec.ofBool (decide ((k : ℕ) < p)) := by
  after_reads_at
  rw [h2, h3]
  exact WordCmp.cmpi_slt_ofNat (w := 32) (by omega) (by omega)

/-- The plan at a flat position's row and column, where they lie in the table. -/
theorem v177_at (b : Fin 16) (k : Fin 263169) (i j : ℕ) (T : ℕ → ℕ → EReal)
    (hT : ∀ i j : Fin 513, W main_v74 (ix3 b i j) = T i j) (h4 : W main_v155 (ix2 b k) = BitVec.ofNat 32 (min i 512))
    (h5 : W main_v158 (ix2 b k) = BitVec.ofNat 32 j) (hi : i < 512) (hj : j < 512) :
    after hostOps0_27 W main_v177 (ix2 b k) = T i j := by
  after_reads_at
  rw [Nat.min_eq_left (by omega)] at h4
  refine (Sinkhorn.gather_pair _ _ _ b k i j (by omega) (by omega) (by omega) ?_ ?_).trans (hT ⟨i, by omega⟩ ⟨j, by omega⟩)
  · pointwise
    after_reads_at
    rw [h4]
    exact Sinkhorn.wrap_word _ 0 (by omega) _
  · pointwise
    after_reads_at
    rw [h5]
    exact Sinkhorn.wrap_word _ 0 (by omega) _

theorem cst_26_at : after hostOps0_27 W main_cst_26 ix0 = (0 : EReal) := by
  after_reads_at

/-- The first result: the plan inside the ragged shape, zero outside. -/
theorem v178_at (b : Fin 16) (k : Fin 263169) (p : Prop) [Decidable p] (x : EReal)
    (hx : p → W main_v177 (ix2 b k) = x) (h : W main_v163 (ix2 b k) = BitVec.ofBool (decide p)) (h0 : W main_cst_26 ix0 = (0 : EReal)) :
    after hostOps0_28 W main_v178 (ix2 b k) = if p then x else 0 := by
  after_reads_at
  rw [h, WordCmp.select_ofBool]
  by_cases hp : p
  · rw [if_pos (decide_eq_true hp), if_pos hp, hx hp]
  · rw [if_neg (by simpa using hp), if_neg hp]
    exact h0

/-- The assignment's bit at a flat position's row and column, where they lie in the table. -/
theorem v192_at (b : Fin 16) (k : Fin 263169) (i j : ℕ) (B : ℕ → ℕ → BitVec 1)
    (hB : ∀ i j : Fin 512, W main_v144 (ix3 b i.castSucc j.castSucc) = B i j)
    (h4 : W main_v155 (ix2 b k) = BitVec.ofNat 32 (min i 512))
    (h5 : W main_v158 (ix2 b k) = BitVec.ofNat 32 j) (hi : i < 512) (hj : j < 512) :
    after hostOps0_29 W main_v192 (ix2 b k) = B i j := by
  after_reads_at
  rw [Nat.min_eq_left (by omega)] at h4
  refine (Sinkhorn.gather_pair _ _ _ b k i j (by omega) (by omega) (by omega) ?_ ?_).trans (hB ⟨i, hi⟩ ⟨j, hj⟩)
  · pointwise
    after_reads_at
    rw [h4]
    exact Sinkhorn.wrap_word _ 0 (by omega) _
  · pointwise
    after_reads_at
    rw [h5]
    exact Sinkhorn.wrap_word _ 0 (by omega) _

theorem c_31_at : after hostOps0_29 W main_c_31 ix0 = (0#1 : BitVec 1) := by
  after_reads_at

/-- The second result: the assignment's bit inside the ragged shape, zero outside. -/
theorem v193_at (b : Fin 16) (k : Fin 263169) (p : Prop) [Decidable p] (x : BitVec 1)
    (hx : p → W main_v192 (ix2 b k) = x) (h : W main_v163 (ix2 b k) = BitVec.ofBool (decide p)) (h0 : W main_c_31 ix0 = (0#1 : BitVec 1)) :
    after hostOps0_30 W main_v193 (ix2 b k) = if p then x else 0#1 := by
  after_reads_at
  rw [h, WordCmp.select_ofBool]
  by_cases hp : p
  · rw [if_pos (decide_eq_true hp), if_pos hp, hx hp]
  · rw [if_neg (by simpa using hp), if_neg hp]
    exact h0

end Cert.ReferenceIdeal.Hand

end
-- ==== Proof.RefValue.lean ====
module

public import proofs.«01_k».proof.Proof.RefLoop
public import proofs.«01_k».proof.Proof.RefPlan
public import proofs.«01_k».proof.Proof.RefTail
public import proofs.«01_k».proof.Proof.Spec
public import proofs.«01_k».proof.Proof.Words
public import Idealize.ShloMosaic.Lib.StableHlo.ReadAt
public import Idealize.ShloMosaic.Lib.Pointwise
public import Idealize.ShloMosaic.Lib.WordCmp

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

/-- Inside the ragged shape the row and the column lie in the table. -/
theorem in_table (n t : ℕ) (hn : n < 512) (ht : t < 512) (k : ℕ) (h : k < (t + 1) * (n + 1)) : k / (n + 1) < 512 ∧ k % (n + 1) < 512 := by
  have h1 : k / (n + 1) < t + 1 := (Nat.div_lt_iff_lt_mul (by omega)).2 h
  have h2 := Nat.mod_lt k (show 0 < n + 1 by omega)
  omega

section

variable (W : Valuation τ sig (Elt Ideal)) (b : Fin 16) (k : Fin 263169) (n t : ℕ) (T : ℕ → ℕ → EReal)

/-- What the operations after the loop start from, at example `b`: the plan's three factors, the counts and the two columns of numbers. -/
structure Start : Prop where
  tn : n < 512
  tt : t < 512
  arg1 : W main_arg1 (ix1 b) = BitVec.ofNat 32 n
  arg2 : W main_arg2 (ix1 b) = BitVec.ofNat 32 t
  rows : ∀ i : Fin 513, W main_v1 (ix2 i 0) = BitVec.ofNat 32 i
  cols : ∀ j : Fin 513, W main_v3 (ix2 0 j) = BitVec.ofNat 32 j
  plan : ∀ i j : Fin 513, prod3 (W main_v68_4 (ix2 b i)) (W main_v35 (ix3 b i j)) (W main_v68_5 (ix2 b j)) = T i j

open scoped Classical in
/-- What holds at example `b` once the plan and the pairs are computed. -/
structure Paired : Prop where
  tn : n < 512
  tt : t < 512
  arg1 : W main_arg1 (ix1 b) = BitVec.ofNat 32 n
  arg2 : W main_arg2 (ix1 b) = BitVec.ofNat 32 t
  rows : ∀ i : Fin 513, W main_v1 (ix2 i 0) = BitVec.ofNat 32 i
  cols : ∀ j : Fin 513, W main_v3 (ix2 0 j) = BitVec.ofNat 32 j
  plan : ∀ i j : Fin 513, W main_v74 (ix3 b i j) = T i j
  pairs : ∀ i j : Fin 512, W main_v103 (ix3 b i j) = BitVec.ofBool (decide (Sinkhorn.mate T n t i j))
  deaths : ∀ i : Fin 512, W main_v112 (ix2 b i) = BitVec.ofBool (decide (Sinkhorn.death T n t i))
  births : ∀ j : Fin 512, W main_v121 (ix2 b j) = BitVec.ofBool (decide (Sinkhorn.birth T n t j))

open scoped Classical in
/-- What holds at example `b` once the assignment with its border and the flat positions are there. -/
structure Bordered : Prop where
  tn : n < 512
  tt : t < 512
  arg1 : W main_arg1 (ix1 b) = BitVec.ofNat 32 n
  plan : ∀ i j : Fin 513, W main_v74 (ix3 b i j) = T i j
  full : ∀ i j : Fin 512, W main_v144 (ix3 b i.castSucc j.castSucc) = BitVec.ofBool (decide (Sinkhorn.full T n t i j))
  pos : W main_v145 (ix1 k) = BitVec.ofNat 32 k
  size : W main_v150 (ix1 b) = BitVec.ofNat 32 ((t + 1) * (n + 1))
  width : W main_v152 (ix1 b) = BitVec.ofNat 32 (n + 1)

open scoped Classical in
/-- What holds at example `b`, flat position `k`, once its row and its column are there. -/
structure Placed : Prop where
  tn : n < 512
  tt : t < 512
  plan : ∀ i j : Fin 513, W main_v74 (ix3 b i j) = T i j
  full : ∀ i j : Fin 512, W main_v144 (ix3 b i.castSucc j.castSucc) = BitVec.ofBool (decide (Sinkhorn.full T n t i j))
  pos : W main_v145 (ix1 k) = BitVec.ofNat 32 k
  size : W main_v150 (ix1 b) = BitVec.ofNat 32 ((t + 1) * (n + 1))
  row : W main_v155 (ix2 b k) = BitVec.ofNat 32 (min (k / (n + 1)) 512)
  col : W main_v158 (ix2 b k) = BitVec.ofNat 32 (k % (n + 1))

variable {W b k n t T}

/-- The first stretches compute the plan and the pairs. -/
theorem Start.paired (h : Start W b n t T) :
    Paired (after hostOps0_17 (after hostOps0_16 (after hostOps0_15 W))) b n t T := by
  have hm (i j : Fin 512) := v92_at W b i j n t h.tn h.tt h.arg1 h.arg2
  have hs (i j : Fin 512) := v93_at (after hostOps0_15 W) b i j n t T (hm i j)
    ((v75_at W b i j).trans (h.plan i.castSucc j.castSucc)) (cst_9_at W)
  have hm' (i j : Fin 512) : after hostOps0_16 (after hostOps0_15 W) main_v92 (ix3 b i j) = _ :=
    Eq.trans (by generalize after hostOps0_15 W = X; after_reads_at) (hm i j)
  refine ⟨h.tn, h.tt, Eq.trans ?_ h.arg1, Eq.trans ?_ h.arg2, fun i => Eq.trans ?_ (h.rows i), fun j => Eq.trans ?_ (h.cols j),
    fun i j => Eq.trans ?_ ((v74_at W b i j).trans (h.plan i j)), fun i j => v103_at _ b i j n t T hm' hs,
    fun i => v112_at _ b i n t h.tt T (Eq.trans ?_ h.arg2) hm' hs, fun j => v121_at _ b j n t h.tn T (Eq.trans ?_ h.arg1) hm' hs⟩
  case refine_5 => generalize after hostOps0_15 W = X; after_reads_at
  all_goals after_reads_at

/-- The next stretches set the border and number the flat positions. -/
theorem Paired.bordered (h : Paired W b n t T) :
    Bordered (afterL [hostOps0_18, hostOps0_19, hostOps0_20, hostOps0_21, hostOps0_22, hostOps0_23] W) b k n t T := by
  have e1 : after hostOps0_22 (after hostOps0_21 (after hostOps0_20 (after hostOps0_19 (after hostOps0_18 W)))) main_arg1 (ix1 b)
      = W main_arg1 (ix1 b) := by after_reads_at
  have e2 : after hostOps0_22 (after hostOps0_21 (after hostOps0_20 (after hostOps0_19 (after hostOps0_18 W)))) main_arg2 (ix1 b)
      = W main_arg2 (ix1 b) := by after_reads_at
  have hf (i j : Fin 512) := v144_at W b i j n t h.tn h.tt T h.arg1 h.arg2 h.rows h.cols h.pairs h.deaths h.births
  simp only [afterL_cons, afterL_nil] at hf ⊢
  exact ⟨h.tn, h.tt, Eq.trans (by after_reads_at) h.arg1, fun i j => Eq.trans (by after_reads_at) (h.plan i j), hf, v145_at _ k,
    v150_at _ b n t (e1.trans h.arg1) (e2.trans h.arg2), v152_at _ b n (e1.trans h.arg1)⟩

/-- The next stretches compute the row and the column of every flat position. -/
theorem Bordered.placed (h : Bordered W b k n t T) :
    Placed (after hostOps0_26 (after hostOps0_25 (after hostOps0_24 W))) b k n t T := by
  have h153 := v153_at W b k n h.tn h.width h.pos
  have h155 := v155_at _ b k _ (lt_of_le_of_lt (Nat.div_le_self _ _) (by omega)) h153
  refine ⟨h.tn, h.tt, fun i j => Eq.trans ?_ (h.plan i j), fun i j => Eq.trans ?_ (h.full i j), Eq.trans ?_ h.pos, Eq.trans ?_ h.size,
    Eq.trans ?_ h155, v158_at _ b k n h.tn (v157_at _ b n (Eq.trans ?_ h.arg1)) (Eq.trans ?_ h.pos)⟩
  case refine_5 => generalize after hostOps0_25 (after hostOps0_24 W) = X; after_reads_at
  all_goals after_reads_at

/-- The last stretches read the plan at every flat position. -/
theorem Placed.first (h : Placed W b k n t T) :
    after hostOps0_30 (after hostOps0_29 (after hostOps0_28 (after hostOps0_27 W))) main_v178 (ix2 b k) = Sinkhorn.flatPlan T n t k := by
  have hb : (t + 1) * (n + 1) ≤ 512 * 512 := Nat.mul_le_mul h.tt h.tn
  have e : after hostOps0_28 (after hostOps0_27 W) main_v178 (ix2 b k) = Sinkhorn.flatPlan T n t k := by
    refine v178_at _ b k _ _ (fun hk => ?_) (v163_at W b k _ (by omega) h.size h.pos) (cst_26_at W)
    obtain ⟨hi, hj⟩ := in_table n t h.tn h.tt k hk
    exact v177_at W b k _ _ T h.plan h.row h.col hi hj
  refine Eq.trans ?_ e
  generalize after hostOps0_28 (after hostOps0_27 W) = X
  after_reads_at

/-- The last stretches read the assignment at every flat position. -/
theorem Placed.second (h : Placed W b k n t T) :
    after hostOps0_30 (after hostOps0_29 (after hostOps0_28 (after hostOps0_27 W))) main_v193 (ix2 b k) = Sinkhorn.flatAssign T n t k := by
  classical
  have hb : (t + 1) * (n + 1) ≤ 512 * 512 := Nat.mul_le_mul h.tt h.tn
  refine v193_at _ b k _ _ (fun hk => ?_) (Eq.trans ?_ (v163_at W b k ((t + 1) * (n + 1)) (by omega) h.size h.pos)) (c_31_at _)
  · obtain ⟨hi, hj⟩ := in_table n t h.tn h.tt k hk
    refine v192_at _ b k _ _ (fun i j => BitVec.ofBool (decide (Sinkhorn.full T n t i j))) (fun i j => Eq.trans ?_ (h.full i j))
      (Eq.trans ?_ h.row) (Eq.trans ?_ h.col) hi hj
    all_goals after_reads_at
  · generalize after hostOps0_27 W = X
    after_reads_at

/-- Both results of the operations after the loop. -/
theorem Start.results (h : Start W b n t T) :
    afterL postI W main_v178 (ix2 b k) = Sinkhorn.flatPlan T n t k ∧ afterL postI W main_v193 (ix2 b k) = Sinkhorn.flatAssign T n t k :=
  ⟨(h.paired.bordered (k := k)).placed.first, (h.paired.bordered (k := k)).placed.second⟩

end

section

variable (m : (ℓ : Loc nD τ sig) → Buf (Elt Ideal) ℓ) (c : Dev nD) (nd nt : ℕ → ℕ) (A : ℕ → ℕ → ℕ → EReal)
  (hd : ∀ b, nd b < 512) (ht : ∀ b, nt b < 512)
  (hnd : ∀ b : Fin 16, m ((c : Thread nD τ).loc main_arg1) (ix1 b) = BitVec.ofNat 32 (nd b))
  (hnt : ∀ b : Fin 16, m ((c : Thread nD τ).loc main_arg2) (ix1 b) = BitVec.ofNat 32 (nt b))
  (hA : ∀ (b : Fin 16) (i j : Fin 512), m ((c : Thread nD τ).loc main_arg0) (ix3 b i j) = A b i j)

include hd ht hnd hnt hA

/-- What the operations after the loop start from. -/
theorem start (b : Fin 16) :
    Start (after condOps (atK m 50 c)) b (nd b) (nt b) (Sinkhorn.plan (A b) (nd b) (nt b)) := by
  have h := carries_exit m c hd ht hnd hnt hA
  have k1 := congrFun (exit_keep m c (r := main_arg1) (by decide)) (ix1 b)
  have k2 := congrFun (exit_keep m c (r := main_arg2) (by decide)) (ix1 b)
  have k3 := exit_keep m c (r := main_v1) (by decide)
  have k4 := exit_keep m c (r := main_v3) (by decide)
  have k5 := exit_keep m c (r := main_v35) (by decide)
  refine ⟨hd b, ht b, k1.trans ((congrFun (entry_keep (launchContents m c) (r := main_arg1) (by decide)) (ix1 b)).trans (hnd b)),
    k2.trans ((congrFun (entry_keep (launchContents m c) (r := main_arg2) (by decide)) (ix1 b)).trans (hnt b)),
    fun i => (congrFun k3 _).trans (v1_at (launchContents m c) i), fun j => (congrFun k4 _).trans (v3_at (launchContents m c) j), fun i j => ?_⟩
  rw [h.u, h.v, k5]
  rw [show entryContents preI m c (Proc.devRef .tc main_v35) (ix3 b i j) = _ from
    v35_at (launchContents m c) nd nt A hd ht hnd hnt hA b i j]
  rfl

/-- The reference's first result at a flat position. -/
theorem first_result (b : Fin 16) (k : Fin 263169) :
    finalContents condOps preI bodyI postI 50 m c (Proc.devRef .tc main_v178) (ix2 b k)
      = Sinkhorn.flatPlan (Sinkhorn.plan (A b) (nd b) (nt b)) (nd b) (nt b) k :=
  (start m c nd nt A hd ht hnd hnt hA b).results.1

/-- The reference's second result at a flat position. -/
theorem second_result (b : Fin 16) (k : Fin 263169) :
    finalContents condOps preI bodyI postI 50 m c (Proc.devRef .tc main_v193) (ix2 b k)
      = Sinkhorn.flatAssign (Sinkhorn.plan (A b) (nd b) (nt b)) (nd b) (nt b) k :=
  (start m c nd nt A hd ht hnd hnt hA b).results.2

end

end Cert.ReferenceIdeal.Hand

end
-- ==== Proof.KernelRun.lean ====
/-
  The run of the kernel: every weakly fair execution ends with the two results at the contents the last segment leaves
  (`Gen.W10`) and the three arguments as launched.
-/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the long theorem's implicit arguments are found as in the frame's proof, which is stated over the same segments
set_option backward.isDefEq.respectTransparency.types false in
/-- Every weakly fair execution of the kernel from zero counters terminates; the two results then hold the contents at the
    last segment boundary and the three arguments are as launched. -/
theorem run : θ_run defs (onTc (τ := τ) (main (F := F))) ⟨m, fun _ => 0, ρ⟩ (fun r => ∀ c : Dev nD,
      r.2.mem ((c.tc : Thread nD τ).loc main_v35) = W10 m ρ c (Proc.devRef .tc main_v35)
      ∧ r.2.mem ((c.tc : Thread nD τ).loc main_v52) = W10 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => fun c =>
      ⟨h c _ (mem_uc main_v35 (by decide)), h c _ (mem_uc main_v52 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c)⟩)

end Cert.KernelIdeal.Hand

end
-- ==== Proof.Region0.lean ====
/-
  Region 0 of the kernel: what one block stores, and what the array of matrices holds after the region.
-/
module

public import proofs.«01_k».proof.Proof.Gen.KernelIdeal.Frame
public import Idealize.ShloMosaic.Lib.Pipeline.ValueKit
public import Idealize.ShloMosaic.Lib.WordCmp
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.SL.Sem

/-- What region 0 stores at row `i`, column `j` of a block is the example's matrix there. -/
theorem pay_mat (nd nt : ℕ) (hd : nd < 512) (ht : nt < 512) (x : FVec Ideal S1x512x512 .f32) (A : ℕ → ℕ → EReal)
    (i j : Fin 512) (hA : x (ix3 0 i j) = A i j) :
    Gen.k0_pay1 (F := Ideal) (BitVec.ofNat 32 nd) (BitVec.ofNat 32 nt) x (ix3 0 i j) = Sinkhorn.mat A nd nt i j := by
  pointwise [Gen.k0_pay1]
  simp (disch := omega) only [hlo_ix]
  rw [hA, Sinkhorn.mat]

variable (V : (c : Dev nD) → (b : Ref sig .tc) → Buf (Elt Ideal) ((c : Thread nD τ).loc b))

theorem idx0 : ∀ t : Fin cfg0.N, win0_3.index t = ![(grid0.coords t 0).val, 0, 0] ∧ win0_2.index t = ![(grid0.coords t 0).val, 0, 0]
    ∧ win0_0.index t = ![0] ∧ win0_1.index t = ![0] :=
  (by decide +kernel : ∀ t : Fin grid0.N, _)

/-- After region 0 the array of matrices holds, at example `b`, row `i`, column `j`, the matrix of the example's scores. -/
theorem mats_after (c : Dev nD) (nd nt : ℕ → ℕ) (A : ℕ → ℕ → ℕ → EReal)
    (hd : ∀ b, nd b < 512) (ht : ∀ b, nt b < 512)
    (hnd : ∀ b : Fin 16, V c main_arg1 (ix1 b) = BitVec.ofNat 32 (nd b))
    (hnt : ∀ b : Fin 16, V c main_arg2 (ix1 b) = BitVec.ofNat 32 (nt b))
    (hA : ∀ (b : Fin 16) (i j : Fin 512), V c main_arg0 (ix3 b i j) = A b i j) :
    (dat0 V c).arrAt 3 cfg0.N = fun y => Sinkhorn.mat (A (y 0).val) (nd (y 0).val) (nt (y 0).val) (y 1).val (y 2).val := by
  refine (dat0 V c).arrAt_eq_of_covers 3 _ (by decide +kernel) fun t hf y => ?_
  blk_simp
  rw [after0_3]
  unfold outsAt0 out0_A_3
  frame_out
  idx_vars y
  have e := idx0 t
  blk_simp [e.1, e.2.1]
  have e0 : (grid0.coords t 0).val < 16 := (grid0.coords t 0).isLt
  obtain rfl : y0 = 0 := Subsingleton.elim _ _
  generalize h1 : View.ld (iblk0 V c 0 t) _ _ = w1
  generalize h2 : View.ld (iblk0 V c 1 t) _ _ = w2
  simp only [k0_off1_eq] at h1 h2
  pointwise at h1 h2
  obtain rfl : w1 = BitVec.ofNat 32 (nd (grid0.coords t 0).val) := by
    rw [← h1]
    refine Eq.trans ?_ (hnd ⟨_, e0⟩)
    blk_ext [iblk0, e.2.2.1]
    exact congrFun (k0_off1_eq _) 0
  obtain rfl : w2 = BitVec.ofNat 32 (nt (grid0.coords t 0).val) := by
    rw [← h2]
    refine Eq.trans ?_ (hnt ⟨_, e0⟩)
    blk_ext [iblk0, e.2.2.2]
    exact congrFun (k0_off1_eq _) 0
  refine pay_mat _ _ (hd _) (ht _) _ _ y1 y2 (Eq.trans ?_ (hA ⟨_, e0⟩ y1 y2))
  blk_ext [iblk0, e.2.1]

end Cert.KernelIdeal.Hand

end
-- ==== Proof.Region1Math.lean ====
/-
  Region 1 of the kernel, its arithmetic: one trip of the loop over all sixteen examples at once does, on each example, one
  iteration of the scaling. The row marginals stand in a block-diagonal array, so that a column of the stacked product
  belongs to one example.
-/
module

public import proofs.«01_k».proof.Proof.Gen.KernelIdeal.Skeleton
public import proofs.«01_k».proof.Proof.Spec
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.SL.Sem

variable (x : FVec Ideal S8192x512 .f32) (g : FVec Ideal S16x512x16 .f32) (C V : FVec Ideal S512x16 .f32)
  (Kf : ℕ → ℕ → ℕ → EReal) (rf cf vf : ℕ → ℕ → EReal)

/-- The stacked row scaling at example `b`, row `i`, column `b'`: the example's row scaling where `b' = b`, zero off the
    diagonal. -/
theorem pay_rows
    (hK : ∀ (b : Fin 16) (i j : Fin 512) (h : (b : ℕ) * 512 + i < 8192), x (ix2 ⟨(b : ℕ) * 512 + i, h⟩ j) = Kf b i j)
    (hg : ∀ (b b' : Fin 16) (i : Fin 512), g (ix3 b i b') = if b = b' then rf b i else 0)
    (hV : ∀ (j : Fin 512) (b : Fin 16), V (ix2 j b) = vf b j) (b b' : Fin 16) (i : Fin 512) :
    Gen.k1_pay2 (F := Ideal) g x V (ix3 b i b') = if b = b' then Sinkhorn.rowScale (Kf b) (rf b) (vf b) i else 0 := by
  pointwise [Gen.k1_pay2]
  simp only [hK, hV, hg]
  by_cases h : b = b'
  · subst h
    simp only [if_true]
    rfl
  · simp only [if_neg h]
    exact Sinkhorn.quot_zero _

/-- One trip's first component: the row scaling of every example. -/
theorem pay_row
    (hK : ∀ (b : Fin 16) (i j : Fin 512) (h : (b : ℕ) * 512 + i < 8192), x (ix2 ⟨(b : ℕ) * 512 + i, h⟩ j) = Kf b i j)
    (hg : ∀ (b b' : Fin 16) (i : Fin 512), g (ix3 b i b') = if b = b' then rf b i else 0)
    (hV : ∀ (j : Fin 512) (b : Fin 16), V (ix2 j b) = vf b j) (i : Fin 512) (b : Fin 16) :
    Gen.k1_pay4 (F := Ideal) g x V (ix2 i b) = Sinkhorn.rowScale (Kf b) (rf b) (vf b) i := by
  pointwise [Gen.k1_pay4]
  simp only [pay_rows x g V Kf rf vf hK hg hV]
  rw [Finset.sum_eq_single b]
  · rw [if_pos rfl]
  · intro b' _ h
    rw [if_neg h]
  · intro h
    exact absurd (Finset.mem_univ b) h

/-- One trip's second component: the column scaling of every example, from its new row scaling. -/
theorem pay_col
    (hK : ∀ (b : Fin 16) (i j : Fin 512) (h : (b : ℕ) * 512 + i < 8192), x (ix2 ⟨(b : ℕ) * 512 + i, h⟩ j) = Kf b i j)
    (hg : ∀ (b b' : Fin 16) (i : Fin 512), g (ix3 b i b') = if b = b' then rf b i else 0)
    (hC : ∀ (j : Fin 512) (b : Fin 16), C (ix2 j b) = cf b j)
    (hV : ∀ (j : Fin 512) (b : Fin 16), V (ix2 j b) = vf b j) (j : Fin 512) (b : Fin 16) :
    Gen.k1_pay3 (F := Ideal) C g x V (ix2 j b)
      = Sinkhorn.colScale (Kf b) (cf b) (Sinkhorn.rowScale (Kf b) (rf b) (vf b)) j := by
  have hs : (∑ q : Fin 8192, x (ix2 q j) * Gen.k1_pay2 (F := Ideal) g x V
        (ix3 (⟨(q : ℕ) / 512, by omega⟩ : Fin 16) (⟨(q : ℕ) % 512, by omega⟩ : Fin 512) b))
      = ∑ i : Fin 512, Kf b i j * Sinkhorn.rowScale (Kf b) (rf b) (vf b) i := by
    rw [Fin.sum_univ_tiles 16 512 rfl]
    rw [Finset.sum_eq_single b]
    · refine Finset.sum_congr rfl fun i _ => ?_
      rw [hK, pay_rows x g V Kf rf vf hK hg hV]
      have e1 : (⟨((b : ℕ) * 512 + (i : ℕ)) / 512, by omega⟩ : Fin 16) = b := Fin.ext (by dsimp only; omega)
      have e2 : ((b : ℕ) * 512 + (i : ℕ)) % 512 = i := by omega
      have e3 : ((b : ℕ) * 512 + (i : ℕ)) / 512 = b := by omega
      simp only [e1, e2, e3, if_true]
    · intro b' _ h
      refine Finset.sum_eq_zero fun i _ => ?_
      rw [pay_rows x g V Kf rf vf hK hg hV]
      have e1 : (⟨((b' : ℕ) * 512 + (i : ℕ)) / 512, by omega⟩ : Fin 16) = b' := Fin.ext (by dsimp only; omega)
      simp only [e1, if_neg h, mul_zero]
    · intro h
      exact absurd (Finset.mem_univ b) h
  unfold Sinkhorn.colScale
  rw [← hs, ← hC j b]
  pointwise [Gen.k1_pay3]
  rfl

/-- The block-diagonal array of row marginals. -/
theorem pay_diag (r : Vec Ideal S512x16 .f32) (hr : ∀ (i : Fin 512) (b : Fin 16), r (ix2 i b) = rf b i)
    (b b' : Fin 16) (i : Fin 512) :
    Gen.k1_pay48 (F := Ideal) r (ix3 b i b') = if b = b' then rf b i else 0 := by
  pointwise [Gen.k1_pay48]
  simp (disch := omega) only [hlo_ix]
  rw [hr]
  by_cases h : b = b'
  · subst h
    simp only [decide_true]
    show rf b i * (((BitVec.setWidth 32 (BitVec.ofBool true)).toInt : ℝ) : EReal) = _
    rw [show (BitVec.setWidth 32 (BitVec.ofBool true)).toInt = 1 by decide]; simp
  · rw [if_neg h, decide_eq_false (fun e => h (Fin.ext e))]
    show rf b' i * (((BitVec.setWidth 32 (BitVec.ofBool false)).toInt : ℝ) : EReal) = _
    rw [show (BitVec.setWidth 32 (BitVec.ofBool false)).toInt = 0 by decide]; simp

/-- The result of the region: row scaling times matrix times column scaling. -/
theorem pay_plan (u v : FVec Ideal S512x16 .f32) (uf : ℕ → ℕ → EReal)
    (hK : ∀ (b : Fin 16) (i j : Fin 512) (h : (b : ℕ) * 512 + i < 8192), x (ix2 ⟨(b : ℕ) * 512 + i, h⟩ j) = Kf b i j)
    (hu : ∀ (i : Fin 512) (b : Fin 16), u (ix2 i b) = uf b i) (hv : ∀ (j : Fin 512) (b : Fin 16), v (ix2 j b) = vf b j)
    (b : Fin 16) (i j : Fin 512) :
    Gen.k1_pay5 (F := Ideal) x u v (ix3 b i j) = uf b i * Kf b i j * vf b j := by
  pointwise [Gen.k1_pay5]
  rw [hu, hv, hK]

end Cert.KernelIdeal.Hand

end
-- ==== Proof.Region1.lean ====
module

public import proofs.«01_k».proof.Proof.Gen.KernelIdeal.Frame
public import Idealize.ShloMosaic.Lib.Pipeline.ValueKit
public import Idealize.ShloMosaic.Lib.Pipeline.ReadBack
public import proofs.«01_k».proof.Proof.Region1Math

@[expose] public section

set_option maxRecDepth 16384

noncomputable section

namespace Cert.KernelIdeal.Hand

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-- A fact that holds of the first value and is carried from each trip to the next holds, after `l` trips, of the value folded. -/
theorem foldl_carries {σ ι : Type} (g : ι → σ → σ) (P : ℕ → σ → Prop) (hs : ∀ k i acc, P k acc → P (k + 1) (g i acc)) :
    ∀ (l : List ι) (k : ℕ) (acc : σ), P k acc → P (k + l.length) (l.foldl (fun a i => g i a) acc)
  | [], k, acc, h => h
  | i :: l, k, acc, h => by
    have := foldl_carries g P hs l (k + 1) (g i acc) (hs k i acc h)
    rw [List.length_cons, show k + (l.length + 1) = k + 1 + l.length by omega]
    exact this

/-- The same of a counted loop that only computes. -/
theorem fold_carries {σ : Type} {n : ℕ} (g : Fin n → σ → σ) (init : σ) (P : ℕ → σ → Prop) (h0 : P 0 init)
    (hs : ∀ k i acc, P k acc → P (k + 1) (g i acc)) : P n (Scf.fold g init) := by
  rw [Scf.fold_eq]
  have := foldl_carries g P hs (List.finRange n) 0 init h0
  simpa using this

theorem idx1 : ∀ t : Fin cfg1.N, win1_3.index t = ![0, 0, 0] ∧ win1_2.index t = ![0, 0]
    ∧ win1_1.index t = ![0] ∧ win1_0.index t = ![0] :=
  (by decide +kernel : ∀ t : Fin grid1.N, _)

/-- A marginal, as the kernel writes it at one row: one below the count, the count at it, nothing past it. -/
theorem marg_word (n : ℕ) (hn : n < 512) (i : Fin 512) :
    Scalar.select (Scalar.cmpi .slt (BitVec.ofNat 32 i) (BitVec.ofNat 32 n)) (1 : EReal)
      (Scalar.select (Scalar.cmpi .eq (BitVec.ofNat 32 i) (BitVec.ofNat 32 n)) (((BitVec.ofNat 32 n).toInt : ℝ) : EReal) 0)
      = Sinkhorn.marg n i := by
  simp (disch := omega) only [hlo_ix]
  rfl

set_option maxHeartbeats 4000000 in
/-- After region 1 the array of plans holds, at example `b`, the transport plan that fifty rounds of scaling give it. -/
theorem plans_after (c : Dev nD) (A : ℕ → ℕ → ℕ → EReal) (nd nt : ℕ → ℕ) (hd : ∀ b, nd b < 512) (ht : ∀ b, nt b < 512)
    (hnd : ∀ b : Fin 16, V c main_arg1 (ix1 b) = BitVec.ofNat 32 (nd b))
    (hnt : ∀ b : Fin 16, V c main_arg2 (ix1 b) = BitVec.ofNat 32 (nt b))
    (hK : ∀ (b : Fin 16) (i j : Fin 512) (h : (b : ℕ) * 512 + i < 8192),
      V c main_call0_v1 (ix2 ⟨(b : ℕ) * 512 + i, h⟩ j) = Sinkhorn.mat (A b) (nd b) (nt b) i j) :
    (dat1 V c).arrAt 3 cfg1.N = fun y => Sinkhorn.plan (A (y 0).val) (nd (y 0).val) (nt (y 0).val) (y 1).val (y 2).val := by
  refine (dat1 V c).arrAt_eq_of_covers 3 _ (by decide +kernel) fun t hf y => ?_
  blk_simp
  rw [after1_3]
  unfold outsAt1 out1_A_3
  frame_open
  simp (disch := decide) only [↓ View.readCov_skip, ↓ View.readCov_cons_toLoadRect, ↓ View.readCov_fill]
  generalize hr : View.readCov (Val := Elt Ideal) (View.whole cc1_scratch0) _ _ = r
  generalize hc : View.readCov (Val := Elt Ideal) (View.whole cc1_scratch1) _ _ = q
  have hR : ∀ (i : Fin 512) (b : Fin 16), r (ix2 i b) = Sinkhorn.marg (nt b) i := by
    clear hc q
    intro i b
    rw [← hr]
    rw [View.readCov_eq_canon']
    refine (congrFun (View.ld_unit_lit' (S := S512x16) inb_S512x16_S512x16_0_0 (View.canon _) (by decide)) (ix2 i b)).trans ?_
    simp (disch := decide) only [View.readAt_eq_ld, Memref.IsWhole.read_unread, read_unread_whole]
    clear hr r
    canon_tiles x h
    all_goals
      idx_vars x
      obtain rfl : x1 = 0 := Subsingleton.elim _ _
      obtain rfl : i = x0 := Fin.ext h0
      generalize hw : View.ld (iblk1 V c 1 t) _ _ = w
      pointwise at hw
      obtain rfl : w = BitVec.ofNat 32 (nt b) := by
        rw [← hw]
        refine Eq.trans ?_ (hnt b)
        blk_ext [iblk1, (idx1 t).2.2.1]
      pointwise [k1_pay6, k1_pay9, k1_pay10, k1_pay12, k1_pay14, k1_pay17, k1_pay18, k1_pay20, k1_pay22, k1_pay25, k1_pay26,
        k1_pay28, k1_pay30, k1_pay33, k1_pay34, k1_pay36, k1_pay38, k1_pay41, k1_pay42, k1_pay44, k1_pay46]
      exact marg_word _ (ht _) _
  have hQ : ∀ (i : Fin 512) (b : Fin 16), q (ix2 i b) = Sinkhorn.marg (nd b) i := by
    clear hR hr r
    intro i b
    rw [← hc]
    rw [View.readCov_eq_canon']
    refine (congrFun (View.ld_unit_lit' (S := S512x16) inb_S512x16_S512x16_0_0 (View.canon _) (by decide)) (ix2 i b)).trans ?_
    simp (disch := decide) only [View.readAt_eq_ld, Memref.IsWhole.read_unread, read_unread_whole]
    clear hc q
    canon_tiles x h
    all_goals
      idx_vars x
      obtain rfl : x1 = 0 := Subsingleton.elim _ _
      obtain rfl : i = x0 := Fin.ext h0
      generalize hw : View.ld (iblk1 V c 0 t) _ _ = w
      pointwise at hw
      obtain rfl : w = BitVec.ofNat 32 (nd b) := by
        rw [← hw]
        refine Eq.trans ?_ (hnd b)
        blk_ext [iblk1, (idx1 t).2.2.2]
      pointwise [k1_pay7, k1_pay8, k1_pay11, k1_pay13, k1_pay15, k1_pay16, k1_pay19, k1_pay21, k1_pay23, k1_pay24, k1_pay27,
        k1_pay29, k1_pay31, k1_pay32, k1_pay35, k1_pay37, k1_pay39, k1_pay40, k1_pay43, k1_pay45, k1_pay47]
      exact marg_word _ (hd _) _
  clear hr hc
  frame_out [read_unread_whole]
  generalize hX : k1_pay49 (iblk1 V c 2 t) = X
  have hX' : ∀ (b : Fin 16) (i j : Fin 512) (h : (b : ℕ) * 512 + i < 8192),
      X (ix2 ⟨(b : ℕ) * 512 + i, h⟩ j) = Sinkhorn.mat (A b) (nd b) (nt b) i j := by
    intro b i j h
    rw [← hX]
    pointwise [k1_pay49]
    refine Eq.trans ?_ (hK b i j h)
    blk_ext [iblk1, (idx1 t).2.1]
  have hG := pay_diag (fun b i => Sinkhorn.marg (nt b) i) r hR
  generalize k1_pay48 r = g at hG ⊢
  clear hX hR r
  let Kf : ℕ → ℕ → ℕ → EReal := fun b => Sinkhorn.mat (A b) (nd b) (nt b)
  let sf : ℕ → ℕ → (ℕ → EReal) × (ℕ → EReal) := fun k b => Sinkhorn.scal (Kf b) (Sinkhorn.marg (nt b)) (Sinkhorn.marg (nd b)) k
  have key := fold_carries (n := 50) (fun (_ : Fin 50) (a : FVec Ideal S512x16 .f32 × FVec Ideal S512x16 .f32) =>
      (k1_pay4 (F := Ideal) g X a.2, k1_pay3 (F := Ideal) q g X a.2)) (k1_pay1, k1_pay1)
    (fun k a => (∀ (i : Fin 512) (b : Fin 16), a.1 (ix2 i b) = (sf k b).1 i) ∧ ∀ (j : Fin 512) (b : Fin 16), a.2 (ix2 j b) = (sf k b).2 j)
    ⟨fun i b => by pointwise [k1_pay1]; rfl, fun i b => by pointwise [k1_pay1]; rfl⟩
    (by
      rintro k - a ⟨h1, h2⟩
      have hs : ∀ b, sf (k + 1) b = Sinkhorn.step (Kf b) (Sinkhorn.marg (nt b)) (Sinkhorn.marg (nd b)) (sf k b) :=
        fun b => Sinkhorn.scal_succ _ _ _ _
      simp only [hs]
      exact ⟨fun i b => pay_row X g a.2 Kf (fun b i => Sinkhorn.marg (nt b) i) (fun b => (sf k b).2) hX' hG h2 i b,
        fun j b => pay_col X g q a.2 Kf (fun b i => Sinkhorn.marg (nt b) i) (fun b i => Sinkhorn.marg (nd b) i) (fun b => (sf k b).2) hX' hG hQ h2 j b⟩)
  idx_vars y
  blk_simp [(idx1 t).1]
  exact pay_plan X Kf (fun b => (sf 50 b).2) _ _ (fun b => (sf 50 b).1) hX' key.1 key.2 y0 y1 y2

end Cert.KernelIdeal.Hand

end
-- ==== Proof.Region2.lean ====
/-
  Region 2 of the kernel: what one block stores, and what the array of assignments holds after the region.
-/
module

public import proofs.«01_k».proof.Proof.Gen.KernelIdeal.Frame
public import Idealize.ShloMosaic.Lib.Pipeline.ValueKit
public import Idealize.ShloMosaic.Lib.WordCmp
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.SL.Sem

/-- The word of minus infinity denotes the least extended real. -/
theorem bot_word : Ideal.ofBits .f32 0xFF800000#32 = ⊥ := by
  simp [Ideal.ofBits, Ideal.ieee]

/-- The largest of indicator values is positive exactly when one index has the property. -/
theorem fold_pos {n : ℕ} (p : Fin n → Prop) [DecidablePred p] :
    0 < Finset.fold max (Ideal.ofBits .f32 0xFF800000#32) (fun x => if p x then (1 : EReal) else 0) Finset.univ ↔ ∃ x, p x := by
  rw [Finset.lt_fold_max, bot_word]
  constructor
  · rintro (h | ⟨x, -, h⟩)
    · exact absurd h (by simp)
    · refine ⟨x, ?_⟩
      by_contra hp
      rw [if_neg hp] at h
      exact lt_irrefl _ h
  · rintro ⟨x, h⟩
    exact Or.inr ⟨x, Finset.mem_univ _, by rw [if_pos h]; exact zero_lt_one⟩

/-- A bit widened to a word and read as a number is one or zero. -/
theorem sitofp_bit (b : Bool) :
    FloatOps.sitofp (F := Ideal) .f32 (BitVec.setWidth 32 (BitVec.ofBool b)) = if b = true then (1 : EReal) else 0 := by
  cases b
  · show (((BitVec.setWidth 32 (BitVec.ofBool false)).toInt : ℝ) : EReal) = _
    rw [show (BitVec.setWidth 32 (BitVec.ofBool false)).toInt = 0 by decide]; simp
  · show (((BitVec.setWidth 32 (BitVec.ofBool true)).toInt : ℝ) : EReal) = _
    rw [show (BitVec.setWidth 32 (BitVec.ofBool true)).toInt = 1 by decide]; simp

/-- Flipping the bit of a property gives the bit of its negation. -/
theorem flip_bit (b : Bool) : IntOp.xori (BitVec.ofBool b) 1#1 = BitVec.ofBool (!b) := by
  cases b <;> decide

open scoped Classical in
/-- The bit that region 2 computes for a pair is that of the two being each other's best. -/
theorem pay_mate (nd nt : ℕ) (hd : nd < 512) (ht : nt < 512) (x : Vec Ideal S1x512x512 .f32) (T : ℕ → ℕ → EReal)
    (i j : Fin 512) (hT : ∀ i j : Fin 512, x (ix3 0 i j) = T i j) :
    Gen.k2_pay2 (F := Ideal) (BitVec.ofNat 32 nd) (BitVec.ofNat 32 nt) x (ix2 i j)
      = BitVec.ofBool (decide (Sinkhorn.mate T nd nt i j)) := by
  pointwise [Gen.k2_pay2]
  simp (disch := omega) only [hlo_ix, hT]
  refine congrArg _ (Bool.eq_iff_iff.2 ?_)
  simp only [Bool.and_eq_true, decide_eq_true_eq]
  simp only [Sinkhorn.mate, Sinkhorn.neg, Sinkhorn.rowMax, Sinkhorn.colMax]

open scoped Classical in
/-- What region 2 stores at row `i`, column `j` of a block is one where the assignment has a pair, zero elsewhere. -/
theorem pay_full (nd nt : ℕ) (hd : nd < 512) (ht : nt < 512) (x : Vec Ideal S1x512x512 .f32) (T : ℕ → ℕ → EReal)
    (i j : Fin 512) (hT : ∀ i j : Fin 512, x (ix3 0 i j) = T i j) :
    Gen.k2_pay1 (F := Ideal) (BitVec.ofNat 32 nd) (BitVec.ofNat 32 nt) (iota .tc S512x1 32 [0] iota_S512x1_d0_w32)
        (iota .tc S1x512 32 [1] iota_S1x512_d1_w32) (k2_pay2 (BitVec.ofNat 32 nd) (BitVec.ofNat 32 nt) x)
        (k2_pay3 (BitVec.ofNat 32 nd) (BitVec.ofNat 32 nt) x) (k2_pay4 (F := Ideal) (BitVec.ofNat 32 nd))
        (k2_pay5 (BitVec.ofNat 32 nd) (BitVec.ofNat 32 nt) x) (Scalar.ofBits .f32 0x00000000#32) (ix3 0 i j)
      = if Sinkhorn.full T nd nt i j then (1 : EReal) else 0 := by
  pointwise [Gen.k2_pay1, Gen.k2_pay3, Gen.k2_pay4, Gen.k2_pay5]
  simp only [pay_mate nd nt hd ht x T _ _ hT, WordCmp.select_ofBool, decide_eq_true_eq, fold_pos, flip_bit]
  simp (disch := omega) only [hlo_ix, flip_bit]
  rw [sitofp_bit]
  refine if_congr ?_ rfl rfl
  simp only [Bool.or_eq_true, Bool.and_eq_true, decide_eq_true_eq, Bool.not_eq_true', decide_eq_false_iff_not,
    Sinkhorn.full, Sinkhorn.death, Sinkhorn.birth]

variable (V : (c : Dev nD) → (b : Ref sig .tc) → Buf (Elt Ideal) ((c : Thread nD τ).loc b))

theorem idx2 : ∀ t : Fin cfg2.N, win2_3.index t = ![(grid2.coords t 0).val, 0, 0] ∧ win2_2.index t = ![(grid2.coords t 0).val, 0, 0]
    ∧ win2_0.index t = ![0] ∧ win2_1.index t = ![0] :=
  (by decide +kernel : ∀ t : Fin grid2.N, _)

open scoped Classical in
/-- After region 2 the array of assignments holds, at example `b`, row `i`, column `j`, one where the example's assignment
    has that pair and zero elsewhere. -/
theorem assigns_after (c : Dev nD) (nd nt : ℕ → ℕ) (T : ℕ → ℕ → ℕ → EReal)
    (hd : ∀ b, nd b < 512) (ht : ∀ b, nt b < 512)
    (hnd : ∀ b : Fin 16, V c main_arg1 (ix1 b) = BitVec.ofNat 32 (nd b))
    (hnt : ∀ b : Fin 16, V c main_arg2 (ix1 b) = BitVec.ofNat 32 (nt b))
    (hT : ∀ (b : Fin 16) (i j : Fin 512), V c main_v0_0 (ix3 b i j) = T b i j) :
    (dat2 V c).arrAt 3 cfg2.N
      = fun y => if Sinkhorn.full (T (y 0).val) (nd (y 0).val) (nt (y 0).val) (y 1).val (y 2).val then (1 : EReal) else 0 := by
  refine (dat2 V c).arrAt_eq_of_covers 3 _ (by decide +kernel) fun t hf y => ?_
  blk_simp
  rw [after2_3]
  unfold outsAt2 out2_A_3
  frame_out
  idx_vars y
  have e := idx2 t
  blk_simp [e.1, e.2.1]
  have e0 : (grid2.coords t 0).val < 16 := (grid2.coords t 0).isLt
  obtain rfl : y0 = 0 := Subsingleton.elim _ _
  generalize h1 : View.ld (iblk2 V c 0 t) _ _ = w1
  generalize h2 : View.ld (iblk2 V c 1 t) _ _ = w2
  simp only [k2_off1_eq] at h1 h2
  pointwise at h1 h2
  obtain rfl : w1 = BitVec.ofNat 32 (nd (grid2.coords t 0).val) := by
    rw [← h1]
    refine Eq.trans ?_ (hnd ⟨_, e0⟩)
    blk_ext [iblk2, e.2.2.1]
    exact congrFun (k2_off1_eq _) 0
  obtain rfl : w2 = BitVec.ofNat 32 (nt (grid2.coords t 0).val) := by
    rw [← h2]
    refine Eq.trans ?_ (hnt ⟨_, e0⟩)
    blk_ext [iblk2, e.2.2.2]
    exact congrFun (k2_off1_eq _) 0
  refine pay_full _ _ (hd _) (ht _) _ _ y1 y2 fun i j => Eq.trans ?_ (hT ⟨_, e0⟩ i j)
  blk_ext [iblk2, e.2.1]

end Cert.KernelIdeal.Hand

end
-- ==== Proof.KernelTail.lean ====
module

public import proofs.«01_k».proof.Proof.Gen.KernelIdeal.Frame
public import proofs.«01_k».proof.Proof.Spec
public import proofs.«01_k».proof.Proof.Words
public import Idealize.ShloMosaic.Lib.StableHlo.ReadAt
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.SL.Sem

variable (W : Valuation τ sig (Elt Ideal))

/-- The row length of example `b`. -/
theorem v2_at (b : Fin 16) (n : ℕ) (h : W main_arg1 (ix1 b) = BitVec.ofNat 32 n) :
    StableHlo.after hostOps3 W main_v2 (ix1 b) = BitVec.ofNat 32 (n + 1) := by
  after_reads_at
  exact (congrArg (fun x => IntOp.addi x 1#32) h).trans (WordCmp.addi_ofNat n 1)

/-- The flat position. -/
theorem v3_at (k : Fin 263169) : StableHlo.after hostOps3 W main_v3 (ix1 k) = BitVec.ofNat 32 k := by
  after_reads_at

/-- The row of a flat position. -/
theorem v4_at (b : Fin 16) (k : Fin 263169) (n : ℕ) (hn : n < 512) (h2 : W main_v2 (ix1 b) = BitVec.ofNat 32 (n + 1))
    (h3 : W main_v3 (ix1 k) = BitVec.ofNat 32 k) :
    StableHlo.after hostOps3_1 W main_v4 (ix2 b k) = BitVec.ofNat 32 (k / (n + 1)) := by
  after_reads_at
  rw [h2, h3]
  exact Sinkhorn.floor_div_word k (n + 1) (by omega) (by omega) (by omega)

/-- A position less its row's start is the remainder. -/
theorem sub_row_word (k n : ℕ) :
    IntOp.subi (BitVec.ofNat 32 k) (IntOp.muli (BitVec.ofNat 32 (k / n)) (BitVec.ofNat 32 n)) = BitVec.ofNat 32 (k % n) := by
  rw [WordCmp.muli_ofNat]
  have h : k = k / n * n + k % n := by rw [Nat.mul_comm]; exact (Nat.div_add_mod k n).symm
  show BitVec.ofNat 32 k - BitVec.ofNat 32 (k / n * n) = _
  conv_lhs => lhs; rw [h, BitVec.ofNat_add]
  rw [BitVec.add_comm, BitVec.add_sub_cancel]

/-- The column of a flat position. -/
theorem v10_at (b : Fin 16) (k : Fin 263169) (n : ℕ) (h2 : W main_v2 (ix1 b) = BitVec.ofNat 32 (n + 1))
    (h3 : W main_v3 (ix1 k) = BitVec.ofNat 32 k) (h4 : W main_v4 (ix2 b k) = BitVec.ofNat 32 (k / (n + 1))) :
    StableHlo.after hostOps3_2 W main_v10 (ix2 b k) = BitVec.ofNat 32 (k % (n + 1)) := by
  after_reads_at
  rw [h2, h3, h4]
  exact sub_row_word _ _

/-- Whether a flat position lies inside the ragged shape. -/
theorem v18_at (b : Fin 16) (k : Fin 263169) (n t : ℕ) (hn : n < 512) (ht : t < 512) (h2 : W main_v2 (ix1 b) = BitVec.ofNat 32 (n + 1))
    (h3 : W main_v3 (ix1 k) = BitVec.ofNat 32 k) (ha : W main_arg2 (ix1 b) = BitVec.ofNat 32 t) :
    StableHlo.after hostOps3_2 W main_v18 (ix2 b k) = BitVec.ofBool (decide ((k : ℕ) < (t + 1) * (n + 1))) := by
  after_reads_at
  rw [h2, h3, ha]
  have hb : (t + 1) * (n + 1) ≤ 512 * 512 := Nat.mul_le_mul (by omega) (by omega)
  rw [show IntOp.addi (BitVec.ofNat 32 t) 1#32 = BitVec.ofNat 32 (t + 1) from WordCmp.addi_ofNat t 1, WordCmp.muli_ofNat]
  exact WordCmp.cmpi_slt_ofNat (w := 32) (by omega) (by omega)

/-- The row of a flat position, held inside the table. -/
theorem v20_at (b : Fin 16) (k : Fin 263169) (i : ℕ) (hi : i < 2 ^ 31) (h4 : W main_v4 (ix2 b k) = BitVec.ofNat 32 i) :
    StableHlo.after hostOps3_2 W main_v20 (ix2 b k) = BitVec.ofNat 32 (min i 511) := by
  after_reads_at
  rw [h4]
  exact Sinkhorn.min_word i 511 hi (by omega)

/-- The plan at a flat position's row and column, where they lie in the table. -/
theorem v34_at (b : Fin 16) (k : Fin 263169) (n : ℕ) (T : ℕ → ℕ → EReal)
    (hT : ∀ i j : Fin 512, W main_v0_0 (ix3 b i j) = T i j) (h2 : W main_v2 (ix1 b) = BitVec.ofNat 32 (n + 1))
    (h3 : W main_v3 (ix1 k) = BitVec.ofNat 32 k) (h4 : W main_v4 (ix2 b k) = BitVec.ofNat 32 (k / (n + 1)))
    (hi : (k : ℕ) / (n + 1) < 512) (hj : (k : ℕ) % (n + 1) < 512) :
    StableHlo.after hostOps3_2 W main_v34 (ix2 b k) = T (k / (n + 1)) (k % (n + 1)) := by
  after_reads_at
  refine (Sinkhorn.gather_pair _ _ _ b k _ _ hi hj (by omega) ?_ ?_).trans (hT ⟨_, hi⟩ ⟨_, hj⟩)
  · pointwise
    after_reads_at
    rw [h4, show IntOp.minsi (BitVec.ofNat 32 (k / (n + 1))) 511#32 = _ from Sinkhorn.min_word (k / (n + 1)) 511 (by omega) (by omega),
      Nat.min_eq_left (by omega)]
    exact Sinkhorn.wrap_word _ 0 (by omega) _
  · pointwise
    after_reads_at
    rw [h2, h3, h4, sub_row_word]
    exact Sinkhorn.wrap_word _ 0 (by omega) _

/-- The first result: the plan inside the ragged shape, zero outside. -/
theorem v35_at (b : Fin 16) (k : Fin 263169) (p : Prop) [Decidable p] (x : EReal)
    (hx : p → W main_v34 (ix2 b k) = x) (h : W main_v18 (ix2 b k) = BitVec.ofBool (decide p)) (h0 : W main_cst ix0 = (0 : EReal)) :
    StableHlo.after hostOps3_3 W main_v35 (ix2 b k) = if p then x else 0 := by
  after_reads_at
  rw [h, WordCmp.select_ofBool]
  by_cases hp : p
  · rw [if_pos (decide_eq_true hp), if_pos hp, hx hp]
  · rw [if_neg (by simpa using hp), if_neg hp]
    exact h0

theorem cst_at : StableHlo.after hostOps3_2 W main_cst ix0 = (0 : EReal) := by
  after_reads_at

/-- The assignment's bit at a flat position's row and column, where they lie in the table. -/
theorem v51_at (b : Fin 16) (k : Fin 263169) (n : ℕ) (P : ℕ → ℕ → Prop) [∀ i j, Decidable (P i j)]
    (hP : ∀ i j : Fin 512, W main_v0_1 (ix3 b i j) = if P i j then (1 : EReal) else 0)
    (h20 : W main_v20 (ix2 b k) = BitVec.ofNat 32 (min (k / (n + 1)) 511)) (h10 : W main_v10 (ix2 b k) = BitVec.ofNat 32 (k % (n + 1)))
    (hi : (k : ℕ) / (n + 1) < 512) (hj : (k : ℕ) % (n + 1) < 512) :
    StableHlo.after hostOps3_4 W main_v51 (ix2 b k) = BitVec.ofBool (decide (P (k / (n + 1)) (k % (n + 1)))) := by
  after_reads_at
  refine (congrArg (fun z : EReal => BitVec.ofBool (decide (z ≠ 0)))
    ((Sinkhorn.gather_pair _ _ _ b k _ _ hi hj (by omega) ?_ ?_).trans (hP ⟨_, hi⟩ ⟨_, hj⟩))).trans ?_
  rotate_left 2
  · by_cases h : P (k / (n + 1)) (k % (n + 1))
    · simp [h]
    · simp [h]
  · pointwise
    after_reads_at
    rw [h20, Nat.min_eq_left (by omega)]
    exact Sinkhorn.wrap_word _ 0 (by omega) _
  · pointwise
    after_reads_at
    rw [h10]
    exact Sinkhorn.wrap_word _ 0 (by omega) _

theorem c11_at : StableHlo.after hostOps3_4 W main_c_11 ix0 = 0#1 := by
  after_reads_at

/-- The second result: the assignment's bit inside the ragged shape, zero outside. -/
theorem v52_at (b : Fin 16) (k : Fin 263169) (p : Prop) [Decidable p] (x : BitVec 1)
    (hx : p → W main_v51 (ix2 b k) = x) (h : W main_v18 (ix2 b k) = BitVec.ofBool (decide p)) (h0 : W main_c_11 ix0 = 0#1) :
    StableHlo.after hostOps3_5 W main_v52 (ix2 b k) = if p then x else 0#1 := by
  after_reads_at
  rw [h, WordCmp.select_ofBool]
  by_cases hp : p
  · rw [if_pos (decide_eq_true hp), if_pos hp, hx hp]
  · rw [if_neg (by simpa using hp), if_neg hp]
    exact h0

end Cert.KernelIdeal.Hand

end
-- ==== Proof.KernelValue.lean ====
module

public import proofs.«01_k».proof.Proof.Gen.KernelIdeal.Frame
public import proofs.«01_k».proof.Proof.Region0
public import proofs.«01_k».proof.Proof.Region1
public import proofs.«01_k».proof.Proof.Region2
public import proofs.«01_k».proof.Proof.KernelTail

@[expose] public section

set_option maxRecDepth 16384

noncomputable section

namespace Cert.KernelIdeal.Hand

open Cert.KernelIdeal Cert.KernelIdeal.Gen
open Idealize.ShloMosaic Idealize.ShloMosaic.TcCoe Idealize.SL.Sem

/-- The stack of matrices laid out as one tall matrix. -/
theorem tall_at (W : Valuation τ sig (Elt Ideal)) (b : Fin 16) (i j : Fin 512) (h : (b : ℕ) * 512 + i < 8192) :
    StableHlo.after hostOps1 W main_call0_v1 (ix2 ⟨(b : ℕ) * 512 + i, h⟩ j) = W main_call0_v0 (ix3 b i j) := by
  after_reads_at

variable (m : (ℓ : Loc nD τ sig) → Buf (Elt Ideal) ℓ) (ρ : Dev nD → PrngReg)

section

variable (c : Dev nD) (nd nt : ℕ → ℕ) (A : ℕ → ℕ → ℕ → EReal) (hd : ∀ b, nd b < 512) (ht : ∀ b, nt b < 512)
  (hnd : ∀ b : Fin 16, m ((c : Thread nD τ).loc main_arg1) (ix1 b) = BitVec.ofNat 32 (nd b))
  (hnt : ∀ b : Fin 16, m ((c : Thread nD τ).loc main_arg2) (ix1 b) = BitVec.ofNat 32 (nt b))
  (hA : ∀ (b : Fin 16) (i j : Fin 512), m ((c : Thread nD τ).loc main_arg0) (ix3 b i j) = A b i j)

include hd ht hnd hnt hA

/-- After the second region the array of plans holds each example's plan. -/
theorem plan_held (b : Fin 16) (i j : Fin 512) :
    W3 m ρ c (Proc.devRef .tc main_v0_0) (ix3 b i j) = Sinkhorn.plan (A b) (nd b) (nt b) i j := by
  have h := plans_after (V2 m ρ) c A nd nt hd ht
    (fun b => (congrFun (W2_args m ρ c main_arg1 (by decide)) (ix1 b)).trans (hnd b))
    (fun b => (congrFun (W2_args m ρ c main_arg2 (by decide)) (ix1 b)).trans (hnt b))
    (fun b i j h => (tall_at (W1 m ρ c) b i j h).trans (congrFun ((W1_arr m ρ c 3).trans (mats_after (V0 m ρ) c nd nt A hd ht
      (fun b => hnd b) (fun b => hnt b) (fun b i j => hA b i j))) (ix3 b i j)))
  exact congrFun ((W3_arr m ρ c 3).trans h) (ix3 b i j)

open scoped Classical in
/-- After the third region the array of assignments holds each example's assignment, as ones and zeros. -/
theorem full_held (b : Fin 16) (i j : Fin 512) :
    W4 m ρ c (Proc.devRef .tc main_v0_1) (ix3 b i j)
      = if Sinkhorn.full (Sinkhorn.plan (A b) (nd b) (nt b)) (nd b) (nt b) i j then (1 : EReal) else 0 := by
  have h := assigns_after (V3 m ρ) c nd nt (fun b => Sinkhorn.plan (A b) (nd b) (nt b)) hd ht
    (fun b => (congrFun (W3_args m ρ c main_arg1 (by decide)) (ix1 b)).trans (hnd b))
    (fun b => (congrFun (W3_args m ρ c main_arg2 (by decide)) (ix1 b)).trans (hnt b))
    (plan_held m ρ c nd nt A hd ht hnd hnt hA)
  exact congrFun ((W4_arr m ρ c 3).trans h) (ix3 b i j)

/-- The words the last stretches of host operations read. -/
theorem words_held (b : Fin 16) (k : Fin 263169) :
    W6 m ρ c (Proc.devRef .tc main_v2) (ix1 b) = BitVec.ofNat 32 (nd b + 1)
      ∧ W6 m ρ c (Proc.devRef .tc main_v3) (ix1 k) = BitVec.ofNat 32 k
      ∧ W6 m ρ c (Proc.devRef .tc main_v4) (ix2 b k) = BitVec.ofNat 32 (k / (nd b + 1)) := by
  have h2 := v2_at (W4 m ρ c) b (nd b) ((congrFun (W4_args m ρ c main_arg1 (by decide)) (ix1 b)).trans (hnd b))
  have h3 := v3_at (W4 m ρ c) k
  exact ⟨(congrFun (W6_of m ρ c main_v2 (by decide)) (ix1 b)).trans h2, (congrFun (W6_of m ρ c main_v3 (by decide)) (ix1 k)).trans h3,
    v4_at (W5 m ρ c) b k (nd b) (hd b) h2 h3⟩

omit hnd hnt hA in
/-- Inside the ragged shape the row and the column lie in the table. -/
theorem in_table (b : ℕ) (k : ℕ) (h : k < (nt b + 1) * (nd b + 1)) : k / (nd b + 1) < 512 ∧ k % (nd b + 1) < 512 := by
  have h1 : k / (nd b + 1) < nt b + 1 := (Nat.div_lt_iff_lt_mul (by omega)).2 h
  have h2 := Nat.mod_lt k (show 0 < nd b + 1 by omega)
  have := hd b
  have := ht b
  omega

/-- The kernel's first result at a flat position. -/
theorem first_result (b : Fin 16) (k : Fin 263169) :
    W10 m ρ c (Proc.devRef .tc main_v35) (ix2 b k)
      = Sinkhorn.flatPlan (Sinkhorn.plan (A b) (nd b) (nt b)) (nd b) (nt b) k := by
  obtain ⟨h2, h3, h4⟩ := words_held m ρ c nd nt A hd ht hnd hnt hA b k
  rw [W10_of m ρ c main_v35 (by decide), W9_of m ρ c main_v35 (by decide)]
  refine v35_at (W7 m ρ c) b k _ _ (fun hk => ?_)
    (v18_at (W6 m ρ c) b k (nd b) (nt b) (hd b) (ht b) h2 h3 ((congrFun (W6_args m ρ c main_arg2 (by decide)) (ix1 b)).trans (hnt b)))
    (cst_at (W6 m ρ c))
  obtain ⟨hi, hj⟩ := in_table nd nt hd ht b k hk
  refine v34_at (W6 m ρ c) b k (nd b) _ (fun i j => ?_) h2 h3 h4 hi hj
  rw [W6_of m ρ c main_v0_0 (by decide), W5_of m ρ c main_v0_0 (by decide), W4_of m ρ c main_v0_0 (by decide)]
  exact plan_held m ρ c nd nt A hd ht hnd hnt hA b i j

/-- The kernel's second result at a flat position. -/
theorem second_result (b : Fin 16) (k : Fin 263169) :
    W10 m ρ c (Proc.devRef .tc main_v52) (ix2 b k)
      = Sinkhorn.flatAssign (Sinkhorn.plan (A b) (nd b) (nt b)) (nd b) (nt b) k := by
  classical
  obtain ⟨h2, h3, h4⟩ := words_held m ρ c nd nt A hd ht hnd hnt hA b k
  have h18 := v18_at (W6 m ρ c) b k (nd b) (nt b) (hd b) (ht b) h2 h3
    ((congrFun (W6_args m ρ c main_arg2 (by decide)) (ix1 b)).trans (hnt b))
  refine v52_at (W9 m ρ c) b k _ _ (fun hk => ?_) ?_ (c11_at (W8 m ρ c))
  · obtain ⟨hi, hj⟩ := in_table nd nt hd ht b k hk
    refine v51_at (W8 m ρ c) b k (nd b) (Sinkhorn.full (Sinkhorn.plan (A b) (nd b) (nt b)) (nd b) (nt b)) (fun i j => ?_) ?_ ?_ hi hj
    · rw [W8_of m ρ c main_v0_1 (by decide), W7_of m ρ c main_v0_1 (by decide), W6_of m ρ c main_v0_1 (by decide),
        W5_of m ρ c main_v0_1 (by decide)]
      exact full_held m ρ c nd nt A hd ht hnd hnt hA b i j
    · rw [W8_of m ρ c main_v20 (by decide)]
      exact v20_at (W6 m ρ c) b k _ (by omega) h4
    · rw [W8_of m ρ c main_v10 (by decide)]
      exact v10_at (W6 m ρ c) b k (nd b) h2 h3 h4
  · rw [W9_of m ρ c main_v18 (by decide), W8_of m ρ c main_v18 (by decide)]
    exact h18

end

end Cert.KernelIdeal.Hand

end
-- ==== Proof.Counts.lean ====
/- What the precondition says: every count is a number of at most nine bits. -/
module

public import proofs.«01_k».proof.Pre_counts_in_range
public import Idealize.ShloMosaic.Lib.Pointwise
public import Idealize.ShloMosaic.Lib.WordCmp

@[expose] public section

noncomputable section

namespace Sinkhorn

open Idealize.ShloMosaic

/-- The one shape relation the predicate takes. -/
instance counts_facts : Cert.Pre_counts_in_range.Facts := ⟨by decide⟩

/-- A word between zero and 512 in signed order is a number below 512. -/
theorem small_word (x : BitVec 32) (h0 : IntOp.cmpi .sge x 0#32 = 1#1) (h1 : IntOp.cmpi .slt x 512#32 = 1#1) : x.toNat < 512 := by
  rw [WordCmp.cmpi_sge_eq, WordCmp.ofBool_decide_eq_one_iff] at h0
  rw [WordCmp.cmpi_slt_eq, WordCmp.ofBool_decide_eq_one_iff] at h1
  have e0 : (0#32 : BitVec 32).toInt = 0 := by decide
  have e1 : (512#32 : BitVec 32).toInt = 512 := by decide
  have hx := BitVec.toInt_eq_toNat_cond x
  have hl := x.isLt
  split at hx <;> omega

/-- A conjunction of two bits is set when both are. -/
theorem both_set (p q : BitVec 1) : IntOp.andi p q = 1#1 ↔ p = 1#1 ∧ q = 1#1 := by
  revert p q
  decide

/-- Under the precondition the counts of example `b` are below 512. -/
theorem counts_small (x : FVec Ideal Cert.Pre_counts_in_range.S16x512x512 .f32) (y z : IVec Cert.Pre_counts_in_range.S16 32)
    (h : Cert.Pre_counts_in_range.fn (F := Ideal) x y z = fun _ => 1#1) (b : Fin 16) :
    (y (ix1 b)).toNat < 512 ∧ (z (ix1 b)).toNat < 512 := by
  have e := congrFun h (ix1 b)
  pointwise [Cert.Pre_counts_in_range.fn] at e
  simp only [both_set] at e
  exact ⟨small_word _ e.1.1.1 e.1.1.2, small_word _ e.1.2 e.2⟩

/-- The counts of the sixteen examples as a function on the numbers. -/
def count (y : IVec Cert.Pre_counts_in_range.S16 32) (b : ℕ) : ℕ := if h : b < 16 then (y (ix1 ⟨b, h⟩)).toNat else 0

theorem count_word (y : IVec Cert.Pre_counts_in_range.S16 32) (b : Fin 16) : y (ix1 b) = BitVec.ofNat 32 (count y b) := by
  rw [count, dif_pos b.isLt]
  exact BitVec.eq_of_toNat_eq (by rw [BitVec.toNat_ofNat, Nat.mod_eq_of_lt (y (ix1 b)).isLt])

theorem count_small (y : IVec Cert.Pre_counts_in_range.S16 32) (h : ∀ b : Fin 16, (y (ix1 b)).toNat < 512) (b : ℕ) : count y b < 512 := by
  unfold count
  split
  · exact h _
  · omega

/-- The scores as a function on the numbers. -/
def score (x : FVec Ideal Cert.Pre_counts_in_range.S16x512x512 .f32) (b i j : ℕ) : EReal :=
  if h : b < 16 ∧ i < 512 ∧ j < 512 then x (ix3 ⟨b, h.1⟩ ⟨i, h.2.1⟩ ⟨j, h.2.2⟩) else 0

theorem score_at (x : FVec Ideal Cert.Pre_counts_in_range.S16x512x512 .f32) (b : Fin 16) (i j : Fin 512) : x (ix3 b i j) = score x b i j := by
  rw [score, dif_pos ⟨b.isLt, i.isLt, j.isLt⟩]

end Sinkhorn

end
-- ==== Proof.lean ====
/- The certificate of the kernel: its frame, its idealization's frame, the reference's frame, that the idealization rewrote
   nothing, and that kernel and reference compute the same two results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.RefValue
public import proofs.«01_k».proof.Proof.KernelRun
public import proofs.«01_k».proof.Proof.KernelValue
public import proofs.«01_k».proof.Proof.Counts
public import Idealize.ShloMosaic.Adequacy
public import Idealize.ShloMosaic.Init

@[expose] public section

noncomputable section

namespace Cert.Proof

open Idealize.ShloMosaic Idealize.SL.Sem Cert.Kernel

/-- From memories that agree on the arguments, with every count below 512, kernel and reference end with equal results. -/
theorem algebraic : Cert.algebraic_KernelIdeal_ReferenceIdeal_pre_counts_in_range := by
  intro m g m' g' hpre hargs
  have hs (c : Dev Cert.KernelIdeal.nD) := Sinkhorn.counts_small _ _ _ (hpre c)
  refine ⟨fun c => Cert.KernelIdeal.Gen.W10 m g c (Proc.devRef .tc Cert.KernelIdeal.main_v35),
    fun c => Cert.KernelIdeal.Gen.W10 m g c (Proc.devRef .tc Cert.KernelIdeal.main_v52), Cert.KernelIdeal.Hand.run m g,
    (θ_run _ _ _).mono (fun r h c => ?_) (Cert.ReferenceIdeal.Value.run_fold m' g')⟩
  obtain ⟨a0, a1, a2⟩ := hargs c
  have hd := Sinkhorn.count_small _ fun b => (hs c b).1
  have ht := Sinkhorn.count_small _ fun b => (hs c b).2
  have knd := Sinkhorn.count_word (m ((c.tc : Thread Cert.KernelIdeal.nD Cert.KernelIdeal.τ).loc Cert.KernelIdeal.main_arg1))
  have knt := Sinkhorn.count_word (m ((c.tc : Thread Cert.KernelIdeal.nD Cert.KernelIdeal.τ).loc Cert.KernelIdeal.main_arg2))
  have kA := Sinkhorn.score_at (m ((c.tc : Thread Cert.KernelIdeal.nD Cert.KernelIdeal.τ).loc Cert.KernelIdeal.main_arg0))
  have rnd := fun b : Fin 16 => (congrFun a1 (ix1 b)).trans (knd b)
  have rnt := fun b : Fin 16 => (congrFun a2 (ix1 b)).trans (knt b)
  have rA := fun (b : Fin 16) (i j : Fin 512) => (congrFun a0 (ix3 b i j)).trans (kA b i j)
  refine ⟨(h c Cert.ReferenceIdeal.main_v178 rfl).trans (funext fun y => ?_),
    (h c Cert.ReferenceIdeal.main_v193 rfl).trans (funext fun y => ?_),
    (h c Cert.ReferenceIdeal.main_arg0 rfl).trans (Cert.ReferenceIdeal.Hand.final_keep m' c).1,
    (h c Cert.ReferenceIdeal.main_arg1 rfl).trans (Cert.ReferenceIdeal.Hand.final_keep m' c).2.1,
    (h c Cert.ReferenceIdeal.main_arg2 rfl).trans (Cert.ReferenceIdeal.Hand.final_keep m' c).2.2⟩
  · idx_vars y
    exact (Cert.ReferenceIdeal.Hand.first_result m' c _ _ _ hd ht rnd rnt rA y0 y1).trans
      (Cert.KernelIdeal.Hand.first_result m g c _ _ _ hd ht knd knt kA y0 y1).symm
  · idx_vars y
    exact (Cert.ReferenceIdeal.Hand.second_result m' c _ _ _ hd ht rnd rnt rA y0 y1).trans
      (Cert.KernelIdeal.Hand.second_result m g c _ _ _ hd ht knd knt kA y0 y1).symm

/-- The claims of this certificate hold. -/
theorem claim : Cert.Claim := ⟨Cert.Kernel.Gen.facts, Cert.KernelIdeal.Gen.facts, Cert.ReferenceIdeal.Gen.facts, Sinkhorn.counts_facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Hand.frame m ρ,
  fun m ρ _ => Cert.ReferenceIdeal.Hand.frame m ρ,
  trivial,
  algebraic⟩

end Cert.Proof

end
